-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_v15) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S16384x1024 : Shape := ⟨2, ![16384, 1024]⟩
abbrev S8x1x2048 : Shape := ⟨3, ![8, 1, 2048]⟩
abbrev S1x1 : Shape := ⟨2, ![1, 1]⟩
abbrev S_ : Shape := ⟨0, ![]⟩
abbrev S16384x1 : Shape := ⟨2, ![16384, 1]⟩
abbrev S2048x64 : Shape := ⟨2, ![2048, 64]⟩
abbrev S2048x1024 : Shape := ⟨2, ![2048, 1024]⟩
abbrev S1x1x2048 : Shape := ⟨3, ![1, 1, 2048]⟩
abbrev S1024 : Shape := ⟨1, ![1024]⟩
abbrev S1 : Shape := ⟨1, ![1]⟩
abbrev S2048 : Shape := ⟨1, ![2048]⟩
abbrev S2048x1 : Shape := ⟨2, ![2048, 1]⟩
abbrev S1x1024 : Shape := ⟨2, ![1, 1024]⟩
abbrev S1x2048x64 : Shape := ⟨3, ![1, 2048, 64]⟩
abbrev S1x1x1 : Shape := ⟨3, ![1, 1, 1]⟩

abbrev nBuf : Space → Nat
  | .hbm => 15
  | .vmem => 14
  | .smem => 1
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x1024, .f32⟩
  | .hbm, ⟨5, _⟩ => ⟨S16384x1024, .f32⟩
  | .hbm, ⟨6, _⟩ => ⟨S8x1x2048, .i32⟩
  | .hbm, ⟨7, _⟩ => ⟨S16384x64, .f32⟩
  | .hbm, ⟨8, _⟩ => ⟨S1x1, .f32⟩
  | .hbm, ⟨9, _⟩ => ⟨S1x1, .f32⟩
  | .hbm, ⟨10, _⟩ => ⟨S16x32x32x64, .f32⟩
  | .hbm, ⟨11, _⟩ => ⟨S16x64x32x32, .f32⟩
  | .hbm, ⟨12, _⟩ => ⟨S_, .f32⟩
  | .hbm, ⟨13, _⟩ => ⟨S_, .f32⟩
  | .hbm, ⟨14, _⟩ => ⟨S16384x1, .i32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S1x1x2048, .i32⟩
  | .local _ .vmem, ⟨8, _⟩ => ⟨S1x1x2048, .i32⟩
  | .local _ .vmem, ⟨9, _⟩ => ⟨S2048x64, .f32⟩
  | .local _ .vmem, ⟨10, _⟩ => ⟨S2048x64, .f32⟩
  | .local _ .vmem, ⟨11, _⟩ => ⟨S1x1, .f32⟩
  | .local _ .vmem, ⟨12, _⟩ => ⟨S1x1, .f32⟩
  | .local _ .vmem, ⟨13, _⟩ => ⟨S1024, .f32⟩
  | .local _ .smem, ⟨0, _⟩ => ⟨S1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0_5 : Ref sig .tc := ⟨.hbm, 4, rfl⟩
abbrev main_v0_3 : Ref sig .tc := ⟨.hbm, 5, rfl⟩
abbrev main_call0_v2_2 : Ref sig .tc := ⟨.hbm, 6, rfl⟩
abbrev main_call0_v2_3 : Ref sig .tc := ⟨.hbm, 7, rfl⟩
abbrev main_call0_v2_4 : Ref sig .tc := ⟨.hbm, 8, rfl⟩
abbrev main_call0_v2_5 : Ref sig .tc := ⟨.hbm, 9, rfl⟩
abbrev main_call0_v3 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v55 : BitVec 1 := Scalar.cmpi .eq arg0 c7_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S16384x2 : Shape := ⟨2, ![16384, 2]⟩

abbrev nBuf : Space → Nat
  | .hbm => 85
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S_, .f32⟩
  | .hbm, ⟨28, _⟩ => ⟨S16384x1024, .f32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x1, .i32⟩
  | .hbm, ⟨47, _⟩ => ⟨S16384x2, .i32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x64, .f32⟩
  | .hbm, ⟨52, _⟩ => ⟨S16x32x32x64, .f32⟩
  | .hbm, ⟨53, _⟩ => ⟨S16x32x32x64, .f32⟩
  | .hbm, ⟨54, _⟩ => ⟨S16x32x32x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x32x32x64, .f32⟩
  | .hbm, ⟨60, _⟩ => ⟨S16x32x32x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16x32x32x64, .f32⟩
  | .hbm, ⟨69, _⟩ => ⟨S16x32x32x64, .f32⟩
  | .hbm, ⟨70, _⟩ => ⟨S16x64x32x32, .f32⟩
  | .hbm, ⟨71, _⟩ => ⟨S_, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.Spec.lean ====
/- The mathematics of vector quantization on extended reals: a row's distances to the codebook's rows, the nearest
   one, the row of zeros with a one there, the quantized row, and sums over all rows taken block by block. -/
module

public import Idealize.ShloMosaic.Lib.Pointwise

@[expose] public section

noncomputable section

namespace Cert.VQ

open Idealize.ShloMosaic

/-- The factor of the product in the distance. -/
def two : EReal := Ideal.ofBits .f32 0x40000000#32

/-- The distance of the row `u` to row `k` of the codebook `E`. -/
def dst (u : Fin 64 → EReal) (E : Fin 1024 → Fin 64 → EReal) (k : Fin 1024) : EReal :=
  ∑ j, u j * u j + ∑ j, E k j * E k j - two * ∑ j, u j * E k j

theorem inf_eq : Ideal.ofBits .f32 0x7F800000#32 = ⊤ := by simp [Ideal.ofBits, Ideal.ieee]

/-! ## The nearest row -/

theorem least_nonempty (d : Fin 1024 → EReal) : (Finset.univ.filter fun b => ∀ k, d b ≤ d k).Nonempty := by
  obtain ⟨b, -, hb⟩ := Finset.exists_min_image Finset.univ d ⟨0, Finset.mem_univ _⟩
  exact ⟨b, Finset.mem_filter.2 ⟨Finset.mem_univ _, fun k => hb k (Finset.mem_univ _)⟩⟩

/-- The first position of the least of the distances `d`. -/
def best (d : Fin 1024 → EReal) : Fin 1024 := (Finset.univ.filter fun b => ∀ k, d b ≤ d k).min' (least_nonempty d)

/-- No distance is below the one at `best`. -/
theorem best_le (d : Fin 1024 → EReal) (k : Fin 1024) : d (best d) ≤ d k :=
  (Finset.mem_filter.1 (Finset.min'_mem _ (least_nonempty d))).2 k

/-- A position with the same distance is not before `best`. -/
theorem best_first (d : Fin 1024 → EReal) (k : Fin 1024) (h : d k = d (best d)) : best d ≤ k :=
  Finset.min'_le _ _ (Finset.mem_filter.2 ⟨Finset.mem_univ _, fun k' => h ▸ best_le d k'⟩)

/-- The minimum of the distances, taken from `⊤`, is the distance at `best`. -/
theorem fold_min_eq (d : Fin 1024 → EReal) : Finset.univ.fold min ⊤ d = d (best d) :=
  le_antisymm (Finset.fold_min_le _ |>.2 (.inr ⟨best d, Finset.mem_univ _, le_rfl⟩))
    (Finset.le_fold_min _ |>.2 ⟨le_top, fun k _ => best_le d k⟩)

theorem toInt_small (n : Nat) (h : n < 2048) : (BitVec.ofNat 32 n).toInt = n := by
  rw [BitVec.toInt_eq_toNat_of_lt] <;> rw [BitVec.toNat_ofNat, Nat.mod_eq_of_lt (by omega)]
  omega

theorem minsi_toInt (x y : BitVec 32) : (IntOp.minsi x y).toInt = min x.toInt y.toInt := by
  unfold IntOp.minsi
  rw [min_def]
  by_cases h : x.toInt ≤ y.toInt
  · rw [if_pos h]
    by_cases h' : x.slt y
    · simp [h']
    · have : y.toInt ≤ x.toInt := by simpa [BitVec.slt] using h'
      simp [h']; omega
  · rw [if_neg h]
    have h' : x.slt y = false := by simp [BitVec.slt]; omega
    simp [h']

/-- The least of the positions that attain the minimum, the others read as 1024, is `best`. -/
theorem fold_minsi_eq (d : Fin 1024 → EReal) :
    Finset.univ.fold IntOp.minsi 2147483647#32 (fun k => if d k = d (best d) then BitVec.ofNat 32 k.val else 1024#32)
      = BitVec.ofNat 32 (best d).val := by
  have hb := (best d).isLt
  refine BitVec.eq_of_toInt_eq ?_
  rw [← Finset.fold_hom (op := IntOp.minsi) (op' := min) (m := BitVec.toInt) minsi_toInt, toInt_small (best d).val (by omega)]
  refine le_antisymm (Finset.fold_min_le _ |>.2 (.inr ⟨best d, Finset.mem_univ _, ?_⟩))
    (Finset.le_fold_min _ |>.2 ⟨?_, fun k _ => ?_⟩)
  · rw [if_pos rfl, toInt_small _ (by omega)]
  · rw [show (2147483647#32).toInt = 2147483647 by decide]; omega
  · have hk := k.isLt
    split
    · next h => rw [toInt_small _ (by omega)]; exact_mod_cast best_first d k h
    · rw [show (1024#32).toInt = 1024 by decide]; omega

/-- Of two pairs of a distance and a position the one with the smaller distance, on equal distances the first if its
    position is smaller, else the second. -/
def lex (a b : EReal × BitVec 32) : EReal × BitVec 32 :=
  if a.1 < b.1 then a else if a.1 = b.1 ∧ a.2.slt b.2 = true then a else b

theorem lex_or (a b : EReal × BitVec 32) : lex a b = a ∨ lex a b = b := by
  unfold lex; split_ifs <;> simp

/-- A fold of choices between two ends at the pair that wins against every pair of the list and against the start. -/
theorem foldl_lex (t : EReal × BitVec 32) : ∀ (l : List (EReal × BitVec 32)) (i : EReal × BitVec 32),
    (∀ p ∈ l, lex p t = t ∧ lex t p = t) → lex i t = t ∧ lex t i = t → (t ∈ l ∨ i = t) → l.foldl lex i = t
  | [], i, _, _, h => h.resolve_left List.not_mem_nil
  | p :: l, i, hl, hi, h => by
    have hp := hl p List.mem_cons_self
    refine foldl_lex t l _ (fun q hq => hl q (List.mem_cons_of_mem _ hq)) ?_ ?_
    · rcases lex_or i p with e | e <;> rw [e] <;> assumption
    · rcases h with h | h
      · rcases List.mem_cons.1 h with h | h
        · exact .inr (h ▸ hi.1)
        · exact .inl h
      · exact .inr (h ▸ hp.2)

/-- Every pair of a distance and its position loses to the pair at `best`. -/
theorem lex_best (d : Fin 1024 → EReal) (k : Fin 1024) :
    lex (d k, BitVec.ofNat 32 k.val) (d (best d), BitVec.ofNat 32 (best d).val) = (d (best d), BitVec.ofNat 32 (best d).val)
      ∧ lex (d (best d), BitVec.ofNat 32 (best d).val) (d k, BitVec.ofNat 32 k.val) = (d (best d), BitVec.ofNat 32 (best d).val) := by
  have hk := k.isLt
  have hb := (best d).isLt
  have hle := best_le d k
  by_cases he : d k = d (best d)
  · have hf : (best d).val ≤ k.val := best_first d k he
    unfold lex
    simp only [he, lt_irrefl, if_false, true_and, BitVec.slt, toInt_small _ (show k.val < 2048 by omega),
      toInt_small _ (show (best d).val < 2048 by omega), decide_eq_true_eq, Nat.cast_lt]
    refine ⟨if_neg (by omega), ?_⟩
    split
    · rfl
    · rw [show k.val = (best d).val by omega]
  · have hlt : d (best d) < d k := lt_of_le_of_ne hle (Ne.symm he)
    unfold lex
    refine ⟨?_, if_pos hlt⟩
    rw [if_neg (not_lt.2 hle), if_neg fun h => he h.1]

/-- So does the start, the pair of `⊤` and position 0. -/
theorem lex_top (d : Fin 1024 → EReal) :
    lex (⊤, 0#32) (d (best d), BitVec.ofNat 32 (best d).val) = (d (best d), BitVec.ofNat 32 (best d).val)
      ∧ lex (d (best d), BitVec.ofNat 32 (best d).val) (⊤, 0#32) = (d (best d), BitVec.ofNat 32 (best d).val) := by
  by_cases h : d (best d) = ⊤
  · have h0 : best d = 0 := le_antisymm (best_first d 0 (by
      have := best_le d 0
      rw [h] at this ⊢
      exact top_le_iff.1 this)) (Fin.zero_le _)
    have := lex_best d (best d)
    rw [h, h0] at this
    rw [h, h0]
    exact this
  · have hlt : d (best d) < ⊤ := lt_top_iff_ne_top.2 h
    unfold lex
    refine ⟨?_, if_pos hlt⟩
    rw [if_neg (not_lt.2 le_top), if_neg fun e => h e.1.symm]

/-- The choice over a list of the distances with their positions, from `⊤` and position 0, is the pair at `best`. -/
theorem foldl_best (d : Fin 1024 → EReal) (l : List (EReal × BitVec 32))
    (hl : ∀ p ∈ l, ∃ k : Fin 1024, p = (d k, BitVec.ofNat 32 k.val))
    (hm : ∀ k : Fin 1024, (d k, BitVec.ofNat 32 k.val) ∈ l) :
    l.foldl lex (⊤, 0#32) = (d (best d), BitVec.ofNat 32 (best d).val) :=
  foldl_lex _ l _ (fun p hp => by obtain ⟨k, rfl⟩ := hl p hp; exact lex_best d k) (lex_top d) (.inl (hm _))

/-! ## What follows from the choice -/

/-- The position of the row of the codebook nearest to `u`. -/
def pick (u : Fin 64 → EReal) (E : Fin 1024 → Fin 64 → EReal) : Fin 1024 := best (dst u E)

/-- One at the nearest row's position, zero elsewhere. -/
def hot (u : Fin 64 → EReal) (E : Fin 1024 → Fin 64 → EReal) (k : Fin 1024) : EReal := if k = pick u E then 1 else 0

/-- The codebook's rows summed with those weights. -/
def qz (u : Fin 64 → EReal) (E : Fin 1024 → Fin 64 → EReal) (j : Fin 64) : EReal := ∑ k, hot u E k * E k j

/-- The squared difference of a row and its quantization, summed over the row. -/
def sq (u : Fin 64 → EReal) (E : Fin 1024 → Fin 64 → EReal) : EReal := ∑ j, (qz u E j - u j) * (qz u E j - u j)

/-- The loss of a total of squared differences. -/
def loss (s : EReal) : EReal :=
  Ideal.div s (Ideal.ofBits .f32 0x49800000#32) * Ideal.ofBits .f32 0x3E800000#32 + Ideal.div s (Ideal.ofBits .f32 0x49800000#32)

/-- The entropy of counts, read as shares. -/
def ent (n : Fin 1024 → EReal) : EReal :=
  ∑ k, Ideal.div (n k) (Ideal.ofBits .f32 0x46800000#32)
    * Ideal.log (Ideal.div (n k) (Ideal.ofBits .f32 0x46800000#32) + Ideal.ofBits .f32 0x2EDBE6FF#32)

/-! ## Sums over all rows -/

/-- Row `r` of block `t`. -/
def rowOf (t : Fin 8) (r : Fin 2048) : Fin 16384 := ⟨2048 * t.val + r.val, by omega⟩

/-- The sum of `f` over the rows of the first `n` blocks. -/
def part (f : Fin 16384 → EReal) (n : Nat) : EReal :=
  ∑ i ∈ Finset.range (2048 * n), if h : i < 16384 then f ⟨i, h⟩ else 0

theorem part_zero (f : Fin 16384 → EReal) : part f 0 = 0 := rfl

theorem part_succ (f : Fin 16384 → EReal) (t : Fin 8) : part f (t.val + 1) = part f t.val + ∑ r, f (rowOf t r) := by
  unfold part
  rw [show 2048 * (t.val + 1) = 2048 * t.val + 2048 by omega, Finset.sum_range_add]
  congr 1
  rw [Finset.sum_range]
  refine Finset.sum_congr rfl fun r _ => ?_
  rw [dif_pos (show 2048 * t.val + r.val < 16384 by omega)]
  rfl

/-- All eight blocks make all the rows. -/
theorem part_all (f : Fin 16384 → EReal) : part f 8 = ∑ n, f n := by
  unfold part
  rw [show 2048 * 8 = 16384 by omega, Finset.sum_range]
  exact Finset.sum_congr rfl fun r _ => dif_pos r.isLt

end Cert.VQ

end
-- ==== Proof.KOut.lean ====
/- What one run of the kernel's body leaves in each of its output blocks and in the two values it carries from
   one grid point to the next, as functions of the block of rows, the codebook and the carried values before. -/
module

public import proofs.«01_k».proof.Proof.Spec
public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The one carried number, loaded. -/
theorem ld_one (x : Vec F S1 .f32) (j : S1.Idx) : View.ld x (Rect.unit ![0] ![1] inb_S1_S1_0) j = x (ix1 0) := by
  have h : View.ld x (Rect.unit (s := S1) ![0] S1.size inb_S1_S1_0) = x := View.ld_unit_zero hz1 _ x
  exact (congrFun h j).trans (congrArg x (funext fun a => match a with | ⟨0, _⟩ => Subsingleton.elim (α := Fin 1) _ _))

/-! ## The first point -/

/-- The distance block the first point leaves. -/
theorem dist_A (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : cond0_0 i) (hc1 : ¬cond0_1 i) (x0 : Vec F S2048x64 .f32) (x1 : Vec F S1024x64 .f32) :
    out0_A_2 c i a1 h1 a2 h2 a3 h3 a4 h4 a5 h5 a6 h6 a7 h7 a8 h8 a9 h9 a10 h10 hc0 hc1 x0 x1 = k0_pay7 x0 x1 := by
  unfold out0_A_2
  rw [View.read_writes_eq_canon _ _ _ (cover0_A_2 c i a1 h1 a2 h2 a3 h3 a4 h4 a5 h5 a6 h6 a7 h7 a8 h8 a9 h9 a10 h10 hc0 hc1 x0 x1)]
  unfold kernelRun0_A
  dsimp only
  sl_unfold_words
  first | rw [View.canon_unit_zero hz2] | rw [View.canon_cons_unit_zero (S := S2048x1024) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The encoding block the first point leaves. -/
theorem enc_A (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : cond0_0 i) (hc1 : ¬cond0_1 i) (x0 : Vec F S2048x64 .f32) (x1 : Vec F S1024x64 .f32) :
    out0_A_3 c i a1 h1 a2 h2 a3 h3 a4 h4 a5 h5 a6 h6 a7 h7 a8 h8 a9 h9 a10 h10 hc0 hc1 x0 x1 = k0_pay10 x0 x1 := by
  unfold out0_A_3
  rw [View.read_writes_eq_canon _ _ _ (cover0_A_3 c i a1 h1 a2 h2 a3 h3 a4 h4 a5 h5 a6 h6 a7 h7 a8 h8 a9 h9 a10 h10 hc0 hc1 x0 x1)]
  unfold kernelRun0_A
  dsimp only
  sl_unfold_words
  first | rw [View.canon_unit_zero hz2] | rw [View.canon_cons_unit_zero (S := S2048x1024) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The index block the first point leaves. -/
theorem idx_A (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : cond0_0 i) (hc1 : ¬cond0_1 i) (x0 : Vec F S2048x64 .f32) (x1 : Vec F S1024x64 .f32) :
    out0_A_4 c i a1 h1 a2 h2 a3 h3 a4 h4 a5 h5 a6 h6 a7 h7 a8 h8 a9 h9 a10 h10 hc0 hc1 x0 x1 = k0_pay9 x0 x1 := by
  unfold out0_A_4
  rw [View.read_writes_eq_canon _ _ _ (cover0_A_4 c i a1 h1 a2 h2 a3 h3 a4 h4 a5 h5 a6 h6 a7 h7 a8 h8 a9 h9 a10 h10 hc0 hc1 x0 x1)]
  unfold kernelRun0_A
  dsimp only
  sl_unfold_words
  first | rw [View.canon_unit_zero hz3] | rw [View.canon_cons_unit_zero (S := S1x1x2048) hz3]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The quantized block the first point leaves. -/
theorem qz_A (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : cond0_0 i) (hc1 : ¬cond0_1 i) (x0 : Vec F S2048x64 .f32) (x1 : Vec F S1024x64 .f32) :
    out0_A_5 c i a1 h1 a2 h2 a3 h3 a4 h4 a5 h5 a6 h6 a7 h7 a8 h8 a9 h9 a10 h10 hc0 hc1 x0 x1 = k0_pay12 x0 x1 := by
  unfold out0_A_5
  rw [View.read_writes_eq_canon _ _ _ (cover0_A_5 c i a1 h1 a2 h2 a3 h3 a4 h4 a5 h5 a6 h6 a7 h7 a8 h8 a9 h9 a10 h10 hc0 hc1 x0 x1)]
  unfold kernelRun0_A
  dsimp only
  sl_unfold_words
  first | rw [View.canon_unit_zero hz2] | rw [View.canon_cons_unit_zero (S := S2048x64) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The column counts carried on from the first point. -/
theorem cnt_A (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : cond0_0 i) (hc1 : ¬cond0_1 i) (x0 : Vec F S2048x64 .f32) (x1 : Vec F S1024x64 .f32) :
    sout0_A_0 c i a1 h1 a2 h2 a3 h3 a4 h4 a5 h5 a6 h6 a7 h7 a8 h8 a9 h9 a10 h10 hc0 hc1 x0 x1 = k0_pay2 (k0_pay10 x0 x1) k0_pay1 := by
  unfold sout0_A_0
  rw [View.read_writes_eq_canon _ _ _ (scover0_A_0 c i a1 h1 a2 h2 a3 h3 a4 h4 a5 h5 a6 h6 a7 h7 a8 h8 a9 h9 a10 h10 hc0 hc1 x0 x1)]
  unfold kernelRun0_A
  dsimp only
  sl_unfold_words
  first | rw [View.canon_unit_zero hz1] | rw [View.canon_cons_unit_zero (S := S1024) hz1]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The running square sum carried on from the first point. -/
theorem acc_A (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : cond0_0 i) (hc1 : ¬cond0_1 i) (x0 : Vec F S2048x64 .f32) (x1 : Vec F S1024x64 .f32) :
    sout0_A_1 c i a1 h1 a2 h2 a3 h3 a4 h4 a5 h5 a6 h6 a7 h7 a8 h8 a9 h9 a10 h10 hc0 hc1 x0 x1 = fun _ => k0_pay3 (k0_pay6 x0) (k0_pay11 x0 x1) (Scalar.ofBits .f32 0x00000000#32) := by
  unfold sout0_A_1
  rw [View.read_writes_eq_canon _ _ _ (scover0_A_1 c i a1 h1 a2 h2 a3 h3 a4 h4 a5 h5 a6 h6 a7 h7 a8 h8 a9 h9 a10 h10 hc0 hc1 x0 x1)]
  unfold kernelRun0_A
  dsimp only
  sl_unfold_words
  first | rw [View.canon_unit_zero hz1] | rw [View.canon_cons_unit_zero (S := S1) hz1]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]
  rfl

/-! ## A middle point -/

/-- The distance block a middle point leaves. -/
theorem dist_B (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : ¬cond0_1 i) (x0 : Vec F S2048x64 .f32) (x1 : Vec F S1024x64 .f32) (xs0 : Vec F S1024 .f32) (xs1 : Vec F S1 .f32) :
    out0_B_2 c i a1 h1 a2 h2 a3 h3 a4 h4 a5 h5 a6 h6 a7 h7 a8 h8 a9 h9 a10 h10 hc0 hc1 x0 x1 xs0 xs1 = k0_pay7 x0 x1 := by
  unfold out0_B_2
  rw [View.read_writes_eq_canon _ _ _ (cover0_B_2 c i a1 h1 a2 h2 a3 h3 a4 h4 a5 h5 a6 h6 a7 h7 a8 h8 a9 h9 a10 h10 hc0 hc1 x0 x1 xs0 xs1)]
  unfold kernelRun0_B
  dsimp only
  sl_unfold_words
  first | rw [View.canon_unit_zero hz2] | rw [View.canon_cons_unit_zero (S := S2048x1024) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The encoding block a middle point leaves. -/
theorem enc_B (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : ¬cond0_1 i) (x0 : Vec F S2048x64 .f32) (x1 : Vec F S1024x64 .f32) (xs0 : Vec F S1024 .f32) (xs1 : Vec F S1 .f32) :
    out0_B_3 c i a1 h1 a2 h2 a3 h3 a4 h4 a5 h5 a6 h6 a7 h7 a8 h8 a9 h9 a10 h10 hc0 hc1 x0 x1 xs0 xs1 = k0_pay10 x0 x1 := by
  unfold out0_B_3
  rw [View.read_writes_eq_canon _ _ _ (cover0_B_3 c i a1 h1 a2 h2 a3 h3 a4 h4 a5 h5 a6 h6 a7 h7 a8 h8 a9 h9 a10 h10 hc0 hc1 x0 x1 xs0 xs1)]
  unfold kernelRun0_B
  dsimp only
  sl_unfold_words
  first | rw [View.canon_unit_zero hz2] | rw [View.canon_cons_unit_zero (S := S2048x1024) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The index block a middle point leaves. -/
theorem idx_B (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : ¬cond0_1 i) (x0 : Vec F S2048x64 .f32) (x1 : Vec F S1024x64 .f32) (xs0 : Vec F S1024 .f32) (xs1 : Vec F S1 .f32) :
    out0_B_4 c i a1 h1 a2 h2 a3 h3 a4 h4 a5 h5 a6 h6 a7 h7 a8 h8 a9 h9 a10 h10 hc0 hc1 x0 x1 xs0 xs1 = k0_pay9 x0 x1 := by
  unfold out0_B_4
  rw [View.read_writes_eq_canon _ _ _ (cover0_B_4 c i a1 h1 a2 h2 a3 h3 a4 h4 a5 h5 a6 h6 a7 h7 a8 h8 a9 h9 a10 h10 hc0 hc1 x0 x1 xs0 xs1)]
  unfold kernelRun0_B
  dsimp only
  sl_unfold_words
  first | rw [View.canon_unit_zero hz3] | rw [View.canon_cons_unit_zero (S := S1x1x2048) hz3]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The quantized block a middle point leaves. -/
theorem qz_B (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : ¬cond0_1 i) (x0 : Vec F S2048x64 .f32) (x1 : Vec F S1024x64 .f32) (xs0 : Vec F S1024 .f32) (xs1 : Vec F S1 .f32) :
    out0_B_5 c i a1 h1 a2 h2 a3 h3 a4 h4 a5 h5 a6 h6 a7 h7 a8 h8 a9 h9 a10 h10 hc0 hc1 x0 x1 xs0 xs1 = k0_pay12 x0 x1 := by
  unfold out0_B_5
  rw [View.read_writes_eq_canon _ _ _ (cover0_B_5 c i a1 h1 a2 h2 a3 h3 a4 h4 a5 h5 a6 h6 a7 h7 a8 h8 a9 h9 a10 h10 hc0 hc1 x0 x1 xs0 xs1)]
  unfold kernelRun0_B
  dsimp only
  sl_unfold_words
  first | rw [View.canon_unit_zero hz2] | rw [View.canon_cons_unit_zero (S := S2048x64) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The column counts carried on from a middle point. -/
theorem cnt_B (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : ¬cond0_1 i) (x0 : Vec F S2048x64 .f32) (x1 : Vec F S1024x64 .f32) (xs0 : Vec F S1024 .f32) (xs1 : Vec F S1 .f32) :
    sout0_B_0 c i a1 h1 a2 h2 a3 h3 a4 h4 a5 h5 a6 h6 a7 h7 a8 h8 a9 h9 a10 h10 hc0 hc1 x0 x1 xs0 xs1 = k0_pay2 (k0_pay10 x0 x1) xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 xs0 xs1)]
  unfold kernelRun0_B
  dsimp only
  sl_unfold_words
  first | rw [View.canon_unit_zero hz1] | rw [View.canon_cons_unit_zero (S := S1024) hz1]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The running square sum carried on from a middle point. -/
theorem acc_B (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : ¬cond0_1 i) (x0 : Vec F S2048x64 .f32) (x1 : Vec F S1024x64 .f32) (xs0 : Vec F S1024 .f32) (xs1 : Vec F S1 .f32) :
    sout0_B_1 c i a1 h1 a2 h2 a3 h3 a4 h4 a5 h5 a6 h6 a7 h7 a8 h8 a9 h9 a10 h10 hc0 hc1 x0 x1 xs0 xs1 = fun _ => k0_pay3 (k0_pay6 x0) (k0_pay11 x0 x1) (xs1 (ix1 0)) := by
  unfold sout0_B_1
  rw [View.read_writes_eq_canon _ _ _ (scover0_B_1 c i a1 h1 a2 h2 a3 h3 a4 h4 a5 h5 a6 h6 a7 h7 a8 h8 a9 h9 a10 h10 hc0 hc1 x0 x1 xs0 xs1)]
  unfold kernelRun0_B
  dsimp only
  sl_unfold_words
  first | rw [View.canon_unit_zero hz1] | rw [View.canon_cons_unit_zero (S := S1) hz1]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]
  exact funext fun _ => congrArg (k0_pay3 _ _) (ld_one _ _)

/-! ## The last point -/

/-- The distance block the last point leaves. -/
theorem dist_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    out0_C_2 c i a1 h1 a2 h2 a3 h3 a4 h4 a5 h5 a6 h6 a7 h7 a8 h8 a9 h9 a10 h10 hc0 hc1 x0 x1 xs0 xs1 = k0_pay7 x0 x1 := by
  unfold out0_C_2
  rw [View.read_writes_eq_canon _ _ _ (cover0_C_2 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz2] | rw [View.canon_cons_unit_zero (S := S2048x1024) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The encoding block the last point leaves. -/
theorem enc_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    out0_C_3 c i a1 h1 a2 h2 a3 h3 a4 h4 a5 h5 a6 h6 a7 h7 a8 h8 a9 h9 a10 h10 hc0 hc1 x0 x1 xs0 xs1 = k0_pay10 x0 x1 := by
  unfold out0_C_3
  rw [View.read_writes_eq_canon _ _ _ (cover0_C_3 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz2] | rw [View.canon_cons_unit_zero (S := S2048x1024) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The index block the last point leaves. -/
theorem idx_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    out0_C_4 c i a1 h1 a2 h2 a3 h3 a4 h4 a5 h5 a6 h6 a7 h7 a8 h8 a9 h9 a10 h10 hc0 hc1 x0 x1 xs0 xs1 = k0_pay9 x0 x1 := by
  unfold out0_C_4
  rw [View.read_writes_eq_canon _ _ _ (cover0_C_4 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz3] | rw [View.canon_cons_unit_zero (S := S1x1x2048) hz3]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The quantized block the last point leaves. -/
theorem qz_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    out0_C_5 c i a1 h1 a2 h2 a3 h3 a4 h4 a5 h5 a6 h6 a7 h7 a8 h8 a9 h9 a10 h10 hc0 hc1 x0 x1 xs0 xs1 = k0_pay12 x0 x1 := by
  unfold out0_C_5
  rw [View.read_writes_eq_canon _ _ _ (cover0_C_5 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz2] | rw [View.canon_cons_unit_zero (S := S2048x64) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The column counts carried on from the last point. -/
theorem cnt_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    sout0_C_0 c i a1 h1 a2 h2 a3 h3 a4 h4 a5 h5 a6 h6 a7 h7 a8 h8 a9 h9 a10 h10 hc0 hc1 x0 x1 xs0 xs1 = k0_pay2 (k0_pay10 x0 x1) xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz1] | rw [View.canon_cons_unit_zero (S := S1024) hz1]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

/-- The running square sum carried on from the last point. -/
theorem acc_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    sout0_C_1 c i a1 h1 a2 h2 a3 h3 a4 h4 a5 h5 a6 h6 a7 h7 a8 h8 a9 h9 a10 h10 hc0 hc1 x0 x1 xs0 xs1 = fun _ => k0_pay3 (k0_pay6 x0) (k0_pay11 x0 x1) (xs1 (ix1 0)) := by
  unfold sout0_C_1
  rw [View.read_writes_eq_canon _ _ _ (scover0_C_1 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz1] | rw [View.canon_cons_unit_zero (S := S1) hz1]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]
  exact funext fun _ => congrArg (k0_pay3 _ _) (ld_one _ _)

/-- The loss the last point leaves. -/
theorem loss_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    out0_C_6 c i a1 h1 a2 h2 a3 h3 a4 h4 a5 h5 a6 h6 a7 h7 a8 h8 a9 h9 a10 h10 hc0 hc1 x0 x1 xs0 xs1 = k0_pay4 (k0_pay3 (k0_pay6 x0) (k0_pay11 x0 x1) (xs1 (ix1 0))) := by
  unfold out0_C_6
  rw [View.read_writes_eq_canon _ _ _ (cover0_C_6 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz2] | rw [View.canon_cons_unit_zero (S := S1x1) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]
  exact congrArg (fun v => k0_pay4 (k0_pay3 _ _ v)) (ld_one _ _)

/-- The perplexity the last point leaves. -/
theorem perp_C (c : Dev nD) (i : grid0.Coords)
    (a1 : Memref sig .tc .vmem S2048x64 .f32) (h1 : a1.IsWhole)
    (a2 : Memref sig .tc .vmem S1024x64 .f32) (h2 : a2.IsWhole)
    (a3 : Memref sig .tc .vmem S2048x1024 .f32) (h3 : a3.IsWhole)
    (a4 : Memref sig .tc .vmem S2048x1024 .f32) (h4 : a4.IsWhole)
    (a5 : Memref sig .tc .vmem S1x1x2048 .i32) (h5 : a5.IsWhole)
    (a6 : Memref sig .tc .vmem S2048x64 .f32) (h6 : a6.IsWhole)
    (a7 : Memref sig .tc .vmem S1x1 .f32) (h7 : a7.IsWhole)
    (a8 : Memref sig .tc .vmem S1x1 .f32) (h8 : a8.IsWhole)
    (a9 : Memref sig .tc .vmem S1024 .f32) (h9 : a9.IsWhole)
    (a10 : Memref sig .tc .smem S1 .f32) (h10 : a10.IsWhole)
    (hc0 : ¬cond0_0 i) (hc1 : cond0_1 i) (x0 : Vec F S2048x64 .f32) (x1 : Vec F S1024x64 .f32) (xs0 : Vec F S1024 .f32) (xs1 : Vec F S1 .f32) :
    out0_C_7 c i a1 h1 a2 h2 a3 h3 a4 h4 a5 h5 a6 h6 a7 h7 a8 h8 a9 h9 a10 h10 hc0 hc1 x0 x1 xs0 xs1 = k0_pay5 (k0_pay2 (k0_pay10 x0 x1) xs0) := by
  unfold out0_C_7
  rw [View.read_writes_eq_canon _ _ _ (cover0_C_7 c i a1 h1 a2 h2 a3 h3 a4 h4 a5 h5 a6 h6 a7 h7 a8 h8 a9 h9 a10 h10 hc0 hc1 x0 x1 xs0 xs1)]
  unfold kernelRun0_C
  dsimp only
  sl_unfold_words
  first | rw [View.canon_unit_zero hz2] | rw [View.canon_cons_unit_zero (S := S1x1) hz2]
  simp only [View.readAt_eq_ld, h1.read_unread, h2.read_unread, h9.read_unread, h10.read_unread,
    View.readCov_unit_zero (S := S1024) _ hz1, View.readCov_unit_zero (S := S1) _ hz1,
    View.ld_unit_zero (S := S2048x64) hz2, View.ld_unit_zero (S := S1024x64) hz2, View.ld_unit_zero (S := S1024) hz1,
    View.ld_unit_zero (S := S1) hz1, shapeCast_self]

end Cert.KernelIdeal.Val

end
-- ==== Proof.Blk.lean ====
/- What one run of the kernel's body computes, entry by entry on extended reals: for each row of its block the
   distances, the nearest row's position, the row of zeros with a one there, the quantized row, and the sums it
   adds to the two carried values. -/
module

public import proofs.«01_k».proof.Proof.KOut

@[expose] public section

set_option maxRecDepth 16384

noncomputable section

namespace Cert.KernelIdeal.Val

open Cert.KernelIdeal Cert.KernelIdeal.Gen Cert.VQ Idealize.ShloMosaic Idealize.ShloMosaic.TcCoe Idealize.SL.Sem

/-- Row `r` of a block of rows. -/
def row (x : FVec Ideal S2048x64 .f32) (r : Fin 2048) : Fin 64 → EReal := fun j => x (ix2 r j)
/-- The codebook, row by row. -/
def book (e : FVec Ideal S1024x64 .f32) : Fin 1024 → Fin 64 → EReal := fun k j => e (ix2 k j)

variable (x : FVec Ideal S2048x64 .f32) (e : FVec Ideal S1024x64 .f32)

/-- The distances of a block. -/
theorem pay7_at (r : Fin 2048) (k : Fin 1024) : k0_pay7 (F := Ideal) x e (ix2 r k) = dst (row x r) (book e) k := by
  pointwise [k0_pay7, k0_pay6]
  rfl

/-- The nearest row's position, as a word. -/
theorem pay8_at (r : Fin 2048) : k0_pay8 (F := Ideal) x e (ix2 r 0) = BitVec.ofNat 32 (pick (row x r) (book e)).val := by
  pointwise [k0_pay8]
  refine (Finset.fold_congr fun k _ => ?_).trans (fold_minsi_eq (dst (row x r) (book e)))
  have hm : Finset.fold min (Ideal.ofBits FTy.f32 2139095040#32) (fun k' => k0_pay7 (F := Ideal) x e (ix2 r k')) Finset.univ
      = dst (row x r) (book e) (best (dst (row x r) (book e))) := by
    rw [← fold_min_eq (dst (row x r) (book e)), inf_eq]
    exact Finset.fold_congr fun k' _ => pay7_at x e r k'
  rw [hm, pay7_at]

/-- The block of positions. -/
theorem pay9_at (r : Fin 2048) : k0_pay9 (F := Ideal) x e (ix3 0 0 r) = BitVec.ofNat 32 (pick (row x r) (book e)).val := by
  pointwise [k0_pay9]
  exact pay8_at x e r

/-- The block of encodings. -/
theorem pay10_at (r : Fin 2048) (k : Fin 1024) : k0_pay10 (F := Ideal) x e (ix2 r k) = hot (row x r) (book e) k := by
  pointwise [k0_pay10]
  rw [pay8_at]
  have hk := k.isLt
  have hb := (pick (row x r) (book e)).isLt
  unfold hot
  by_cases h : k = pick (row x r) (book e)
  · rw [if_pos h, h]
    simp [IntOp.cmpi]
    show (((1#32).toInt : ℝ) : EReal) = 1
    simp
  · rw [if_neg h]
    have hn : BitVec.ofNat 32 k.val ≠ BitVec.ofNat 32 (pick (row x r) (book e)).val := fun he => h (Fin.ext (by
      have := congrArg BitVec.toNat he
      rw [BitVec.toNat_ofNat, BitVec.toNat_ofNat, Nat.mod_eq_of_lt (by omega), Nat.mod_eq_of_lt (by omega)] at this
      exact this))
    simp [IntOp.cmpi, beq_eq_false_iff_ne.2 hn]
    show (((0#32).toInt : ℝ) : EReal) = 0
    simp

/-- The quantized rows of a block. -/
theorem pay11_at (r : Fin 2048) (j : Fin 64) : k0_pay11 (F := Ideal) x e (ix2 r j) = qz (row x r) (book e) j := by
  pointwise [k0_pay11]
  simp only [pay10_at]
  rfl

/-- The block of the first result's rows. -/
theorem pay12_at (r : Fin 2048) (j : Fin 64) :
    k0_pay12 (F := Ideal) x e (ix2 r j) = row x r j + (qz (row x r) (book e) j - row x r j) := by
  pointwise [k0_pay12, k0_pay6]
  rw [pay11_at]
  rfl

/-- The counts after a block: those before and the block's encodings summed over its rows. -/
theorem pay2_at (n : FVec Ideal S1024 .f32) (k : Fin 1024) :
    k0_pay2 (F := Ideal) (k0_pay10 (F := Ideal) x e) n (ix1 k) = n (ix1 k) + ∑ r, hot (row x r) (book e) k := by
  pointwise [k0_pay2]
  simp only [pay10_at]

/-- The counts before the first block. -/
theorem pay1_at (k : Fin 1024) : k0_pay1 (F := Ideal) (ix1 k) = 0 := by
  pointwise [k0_pay1]

/-- The total of squared differences after a block: the one before and the block's. -/
theorem pay3_at (a : EReal) :
    k0_pay3 (F := Ideal) (k0_pay6 (F := Ideal) x) (k0_pay11 (F := Ideal) x e) a = a + ∑ r, sq (row x r) (book e) := by
  pointwise [k0_pay3, k0_pay6]
  simp only [pay11_at]
  rfl

/-- The loss of a total. -/
theorem pay4_at (a : EReal) : k0_pay4 (F := Ideal) a (ix2 0 0) = loss a := by
  pointwise [k0_pay4]
  rfl

/-- The perplexity of counts. -/
theorem pay5_at (n : FVec Ideal S1024 .f32) :
    k0_pay5 (F := Ideal) n (ix2 0 0) = Scalar.exp (F := Ideal) (φ := .f32) (0 - ent fun k => n (ix1 k)) := by
  pointwise [k0_pay5]
  rfl

end Cert.KernelIdeal.Val

end
-- ==== Proof.KPts.lean ====
/- The six output arrays of the kernel's grid after its eight points, entry by entry on extended reals: the four
   arrays written block by block, and the two values carried over all blocks and written after the last. -/
module

public import proofs.«01_k».proof.Proof.Blk
public import Idealize.ShloMosaic.Lib.Pipeline.ValueKit

@[expose] public section

set_option maxRecDepth 16384

noncomputable section

namespace Cert.KernelIdeal.Val

open Cert.KernelIdeal Cert.KernelIdeal.Gen Cert.VQ Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (c : Dev nD) (t : Fin cfg0.N)

/-! ## What a point leaves -/

/-- The block of distances a point leaves. -/
theorem pt_dist : (outsAt0 m c t.val t.isLt).1 = k0_pay7 (iblk m c 0 t) (iblk m c 1 t) := by
  by_cases h0 : t.val % 8 = 0
  · rw [outsAt0_A m c t h0 (by omega)]; dsimp only; exact dist_A ..
  · by_cases h1 : t.val % 8 = 7
    · rw [outsAt0_C m c t h0 h1]; dsimp only; exact dist_C ..
    · rw [outsAt0_B m c t h0 h1]; dsimp only; exact dist_B ..

/-- The block of encodings a point leaves. -/
theorem pt_enc : (outsAt0 m c t.val t.isLt).2.1 = k0_pay10 (iblk m c 0 t) (iblk m c 1 t) := by
  by_cases h0 : t.val % 8 = 0
  · rw [outsAt0_A m c t h0 (by omega)]; dsimp only; exact enc_A ..
  · by_cases h1 : t.val % 8 = 7
    · rw [outsAt0_C m c t h0 h1]; dsimp only; exact enc_C ..
    · rw [outsAt0_B m c t h0 h1]; dsimp only; exact enc_B ..

/-- The block of positions a point leaves. -/
theorem pt_idx : (outsAt0 m c t.val t.isLt).2.2.1 = k0_pay9 (iblk m c 0 t) (iblk m c 1 t) := by
  by_cases h0 : t.val % 8 = 0
  · rw [outsAt0_A m c t h0 (by omega)]; dsimp only; exact idx_A ..
  · by_cases h1 : t.val % 8 = 7
    · rw [outsAt0_C m c t h0 h1]; dsimp only; exact idx_C ..
    · rw [outsAt0_B m c t h0 h1]; dsimp only; exact idx_B ..

/-- The block of the first result's rows a point leaves. -/
theorem pt_qz : (outsAt0 m c t.val t.isLt).2.2.2.1 = k0_pay12 (iblk m c 0 t) (iblk m c 1 t) := by
  by_cases h0 : t.val % 8 = 0
  · rw [outsAt0_A m c t h0 (by omega)]; dsimp only; exact qz_A ..
  · by_cases h1 : t.val % 8 = 7
    · rw [outsAt0_C m c t h0 h1]; dsimp only; exact qz_C ..
    · rw [outsAt0_B m c t h0 h1]; dsimp only; exact qz_B ..

/-- The counts the first point leaves. -/
theorem pt_cnt_zero (h0 : t.val % 8 = 0) :
    (outsAt0 m c t.val t.isLt).2.2.2.2.2.2.1 = k0_pay2 (k0_pay10 (iblk m c 0 t) (iblk m c 1 t)) k0_pay1 := by
  rw [outsAt0_A m c t h0 (by omega)]; dsimp only; exact cnt_A ..

/-- The counts a later point leaves, from those the point before left. -/
theorem pt_cnt_succ (h0 : ¬t.val % 8 = 0) :
    (outsAt0 m c t.val t.isLt).2.2.2.2.2.2.1 = k0_pay2 (k0_pay10 (iblk m c 0 t) (iblk m c 1 t))
      (outsAt0 m c (t.val - 1) (Nat.lt_of_le_of_lt (Nat.sub_le _ _) t.isLt)).2.2.2.2.2.2.1 := by
  by_cases h1 : t.val % 8 = 7
  · rw [outsAt0_C m c t h0 h1]; dsimp only; exact cnt_C ..
  · rw [outsAt0_B m c t h0 h1]; dsimp only; exact cnt_B ..

/-- The total the first point leaves. -/
theorem pt_acc_zero (h0 : t.val % 8 = 0) :
    (outsAt0 m c t.val t.isLt).2.2.2.2.2.2.2 = fun _ => k0_pay3 (k0_pay6 (iblk m c 0 t)) (k0_pay11 (iblk m c 0 t) (iblk m c 1 t))
      (Scalar.ofBits .f32 0x00000000#32) := by
  rw [outsAt0_A m c t h0 (by omega)]; dsimp only; exact acc_A ..

/-- The total a later point leaves, from the one the point before left. -/
theorem pt_acc_succ (h0 : ¬t.val % 8 = 0) :
    (outsAt0 m c t.val t.isLt).2.2.2.2.2.2.2 = fun _ => k0_pay3 (k0_pay6 (iblk m c 0 t)) (k0_pay11 (iblk m c 0 t) (iblk m c 1 t))
      ((outsAt0 m c (t.val - 1) (Nat.lt_of_le_of_lt (Nat.sub_le _ _) t.isLt)).2.2.2.2.2.2.2 (ix1 0)) := by
  by_cases h1 : t.val % 8 = 7
  · rw [outsAt0_C m c t h0 h1]; dsimp only; exact acc_C ..
  · rw [outsAt0_B m c t h0 h1]; dsimp only; exact acc_B ..

/-- The loss the last point leaves, of the total it leaves. -/
theorem pt_loss (h1 : t.val % 8 = 7) :
    (outsAt0 m c t.val t.isLt).2.2.2.2.1 = k0_pay4 ((outsAt0 m c t.val t.isLt).2.2.2.2.2.2.2 (ix1 0)) := by
  rw [pt_acc_succ m c t (by omega), outsAt0_C m c t (by omega) h1]; dsimp only; exact loss_C ..

/-- The perplexity the last point leaves, of the counts it leaves. -/
theorem pt_perp (h1 : t.val % 8 = 7) :
    (outsAt0 m c t.val t.isLt).2.2.2.2.2.1 = k0_pay5 (outsAt0 m c t.val t.isLt).2.2.2.2.2.2.1 := by
  rw [pt_cnt_succ m c t (by omega), outsAt0_C m c t (by omega) h1]; dsimp only; exact perp_C ..

/-- Which block of each array a point works on. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0, 0] ∧ win0_5.index t = ![t.val, 0]
    ∧ win0_6.index t = ![0, 0] ∧ win0_7.index t = ![0, 0] :=
  (by decide +kernel : ∀ t : Fin grid0.N, _)

end

variable (m : (ℓ : Loc nD τ sig) → Buf (Elt Ideal) ℓ) (c : Dev nD) (t : Fin cfg0.N)

/-- The table of rows the grid reads. -/
def tab : FVec Ideal S16384x64 .f32 := V m c main_call0_v1
/-- The codebook. -/
def bk : FVec Ideal S1024x64 .f32 := m ((c : Thread nD τ).loc main_arg1)
/-- Row `n` of a table of rows. -/
def rows (x : FVec Ideal S16384x64 .f32) (n : Fin 16384) : Fin 64 → EReal := fun j => x (ix2 n j)

/-- A grid point as a block's number. -/
def blkOf : Fin 8 := ⟨t.val, lt_of_lt_of_eq t.isLt N_0⟩

/-- A row of a point's block is the row of the table at its place. -/
theorem row_eq (r : Fin 2048) : row (iblk m c 0 t) r = rows (tab m c) (rowOf (blkOf t) r) := by
  funext j
  unfold row rows tab
  blk_ext [iblk, idx t, rowOf, blkOf]

/-- Every point's codebook block is the codebook. -/
theorem book_eq : book (iblk m c 1 t) = book (bk m c) := by
  funext k j
  unfold book bk
  blk_ext! [iblk, V, idx t]

/-! ## The two carried values -/

/-- The counts after point `n`: the encodings summed over the rows of the blocks so far. -/
theorem cnt_eq (k : Fin 1024) : ∀ (n : ℕ) (hn : n < cfg0.N), (outsAt0 m c n hn).2.2.2.2.2.2.1 (ix1 k)
    = part (fun i => hot (rows (tab m c) i) (book (bk m c)) k) (n + 1)
  | 0, hn => by
    have h := congrFun (pt_cnt_zero m c ⟨0, hn⟩ rfl) (ix1 k)
    refine h.trans ((pay2_at _ _ _ k).trans ?_)
    refine Eq.trans ?_ (part_succ _ (blkOf ⟨0, hn⟩)).symm
    rw [pay1_at]
    simp only [row_eq, book_eq]
    rfl
  | n + 1, hn => by
    have hN := lt_of_lt_of_eq hn N_0
    have h := congrFun (pt_cnt_succ m c ⟨n + 1, hn⟩ (by show ¬(n + 1) % 8 = 0; omega)) (ix1 k)
    refine h.trans ((pay2_at _ _ _ k).trans ?_)
    refine Eq.trans ?_ (part_succ _ (blkOf ⟨n + 1, hn⟩)).symm
    simp only [row_eq, book_eq]
    exact congrArg (· + _) (cnt_eq k n _)

/-- The total after point `n`: the squared differences summed over the rows of the blocks so far. -/
theorem acc_eq : ∀ (n : ℕ) (hn : n < cfg0.N), (outsAt0 m c n hn).2.2.2.2.2.2.2 (ix1 0)
    = part (fun i => sq (rows (tab m c) i) (book (bk m c))) (n + 1)
  | 0, hn => by
    have h := congrFun (pt_acc_zero m c ⟨0, hn⟩ rfl) (ix1 0)
    refine h.trans ((pay3_at _ _ _).trans ?_)
    refine Eq.trans ?_ (part_succ _ (blkOf ⟨0, hn⟩)).symm
    simp only [row_eq, book_eq]
    exact congrArg (· + _) (by show Ideal.ofBits .f32 0x00000000#32 = 0; simp [Ideal.ofBits, Ideal.ieee])
  | n + 1, hn => by
    have hN := lt_of_lt_of_eq hn N_0
    have h := congrFun (pt_acc_succ m c ⟨n + 1, hn⟩ (by show ¬(n + 1) % 8 = 0; omega)) (ix1 0)
    refine h.trans ((pay3_at _ _ _).trans ?_)
    refine Eq.trans ?_ (part_succ _ (blkOf ⟨n + 1, hn⟩)).symm
    simp only [row_eq, book_eq]
    exact congrArg (· + _) (acc_eq n _)

/-! ## The arrays -/

/-- The distances of every row. -/
def DST (x : FVec Ideal S16384x64 .f32) (e : FVec Ideal S1024x64 .f32) : FVec Ideal S16384x1024 .f32 :=
  fun i => dst (rows x (i 0)) (book e) (i 1)
/-- The encodings of every row. -/
def HOT (x : FVec Ideal S16384x64 .f32) (e : FVec Ideal S1024x64 .f32) : FVec Ideal S16384x1024 .f32 :=
  fun i => hot (rows x (i 0)) (book e) (i 1)
/-- The position of every row, block by block. -/
def POS (x : FVec Ideal S16384x64 .f32) (e : FVec Ideal S1024x64 .f32) : IVec S8x1x2048 32 :=
  fun i => BitVec.ofNat 32 (pick (rows x (rowOf (i 0) (i 2))) (book e)).val
/-- The first result's rows. -/
def QZ (x : FVec Ideal S16384x64 .f32) (e : FVec Ideal S1024x64 .f32) : FVec Ideal S16384x64 .f32 :=
  fun i => rows x (i 0) (i 1) + (qz (rows x (i 0)) (book e) (i 1) - rows x (i 0) (i 1))

theorem DST_at (x : FVec Ideal S16384x64 .f32) (e : FVec Ideal S1024x64 .f32) (n : Fin 16384) (k : Fin 1024) :
    DST x e (ix2 n k) = dst (rows x n) (book e) k := rfl
theorem HOT_at (x : FVec Ideal S16384x64 .f32) (e : FVec Ideal S1024x64 .f32) (n : Fin 16384) (k : Fin 1024) :
    HOT x e (ix2 n k) = hot (rows x n) (book e) k := rfl
theorem POS_at (x : FVec Ideal S16384x64 .f32) (e : FVec Ideal S1024x64 .f32) (t : Fin 8) (r : Fin 2048) :
    POS x e (ix3 t 0 r) = BitVec.ofNat 32 (pick (rows x (rowOf t r)) (book e)).val := rfl
theorem QZ_at (x : FVec Ideal S16384x64 .f32) (e : FVec Ideal S1024x64 .f32) (n : Fin 16384) (j : Fin 64) :
    QZ x e (ix2 n j) = rows x n j + (qz (rows x n) (book e) j - rows x n j) := rfl

/-- The array of distances. -/
theorem final_dist : (dats m 0 c).arrAt 2 cfg0.N = DST (tab m c) (bk m c) := by
  refine (dats m 0 c).arrAt_eq_of_covers 2 _ (by decide +kernel) fun t _ y => ?_
  blk_simp
  rw [after0_2, pt_dist]
  idx_vars y
  rw [pay7_at, row_eq, book_eq, ← DST_at]
  refine congrArg (DST (tab m c) (bk m c)) ?_
  blk_ext [idx t, rowOf, blkOf]

/-- The array of encodings. -/
theorem final_enc : (dats m 0 c).arrAt 3 cfg0.N = HOT (tab m c) (bk m c) := by
  refine (dats m 0 c).arrAt_eq_of_covers 3 _ (by decide +kernel) fun t _ y => ?_
  blk_simp
  rw [after0_3, pt_enc]
  idx_vars y
  rw [pay10_at, row_eq, book_eq, ← HOT_at]
  refine congrArg (HOT (tab m c) (bk m c)) ?_
  blk_ext [idx t, rowOf, blkOf]

/-- The array of positions. -/
theorem final_idx : (dats m 0 c).arrAt 4 cfg0.N = POS (tab m c) (bk m c) := by
  refine (dats m 0 c).arrAt_eq_of_covers 4 _ (by decide +kernel) fun t _ y => ?_
  blk_simp
  rw [after0_4, pt_idx]
  idx_vars y
  obtain rfl : y0 = 0 := Subsingleton.elim (α := Fin 1) _ _
  obtain rfl : y1 = 0 := Subsingleton.elim (α := Fin 1) _ _
  rw [pay9_at, row_eq, book_eq, ← POS_at]
  refine congrArg (POS (tab m c) (bk m c)) ?_
  blk_ext [idx t, rowOf, blkOf]

/-- The array of the first result's rows. -/
theorem final_qz : (dats m 0 c).arrAt 5 cfg0.N = QZ (tab m c) (bk m c) := by
  refine (dats m 0 c).arrAt_eq_of_covers 5 _ (by decide +kernel) fun t _ y => ?_
  blk_simp
  rw [after0_5, pt_qz]
  idx_vars y
  rw [pay12_at, row_eq, book_eq, ← QZ_at]
  refine congrArg (QZ (tab m c) (bk m c)) ?_
  blk_ext [idx t, rowOf, blkOf]

/-- The loss, an array of one entry: of the squared differences summed over all rows. -/
theorem final_loss : (dats m 0 c).arrAt 6 cfg0.N
    = (fun _ => loss (∑ n, sq (rows (tab m c) n) (book (bk m c))) : FVec Ideal S1x1 .f32) := by
  refine (dats m 0 c).arrAt_eq_of_after_last 6 t0_7 (by decide +kernel) _ fun y => ?_
  blk_simp
  rw [after0_6, pt_loss m c t0_7 rfl, acc_eq]
  idx_vars y
  obtain rfl : y0 = 0 := Subsingleton.elim (α := Fin 1) _ _
  obtain rfl : y1 = 0 := Subsingleton.elim (α := Fin 1) _ _
  refine (pay4_at _).trans ?_
  exact congrArg loss (part_all _)

/-- The perplexity, an array of one entry: of the encodings summed over all rows. -/
theorem final_perp : (dats m 0 c).arrAt 7 cfg0.N
    = (fun _ => Scalar.exp (F := Ideal) (φ := .f32) (0 - ent fun k => ∑ n, hot (rows (tab m c) n) (book (bk m c)) k) : FVec Ideal S1x1 .f32) := by
  refine (dats m 0 c).arrAt_eq_of_after_last 7 t0_7 (by decide +kernel) _ fun y => ?_
  blk_simp
  rw [after0_7, pt_perp m c t0_7 rfl]
  idx_vars y
  obtain rfl : y0 = 0 := Subsingleton.elim (α := Fin 1) _ _
  obtain rfl : y1 = 0 := Subsingleton.elim (α := Fin 1) _ _
  refine (pay5_at _).trans ?_
  refine congrArg (fun f => Scalar.exp (F := Ideal) (φ := .f32) (0 - ent f)) (funext fun k => ?_)
  exact (cnt_eq m c k _ _).trans (part_all _)

end Cert.KernelIdeal.Val

end
-- ==== Proof.RefRun.lean ====
/- The run of the reference: its operations in order, and what each result array holds after them as a function of
   the two arguments' contents. -/
module

public import proofs.«01_k».proof.Proof.KPts
public import proofs.«01_k».proof.Proof.Gen.ReferenceIdeal
public import Idealize.ShloMosaic.Lib.StableHlo.Run
public import Idealize.ShloMosaic.Lib.StableHlo.RunRead

@[expose] public section

set_option maxRecDepth 100000

noncomputable section

namespace Cert.ReferenceIdeal.Val

open Cert.ReferenceIdeal Cert.ReferenceIdeal.Gen
open Idealize.ShloMosaic Idealize.ShloMosaic.TcCoe Idealize.ShloMosaic.StableHlo Idealize.SL.Sem

variable {F : FTy → Type} [FloatOps F]

/-- Two columns side by side. -/
def pairs (a b : IVec S16384x1 32) : IVec S16384x2 32 :=
  concatenate S16384x2 1 [⟨S16384x1, a⟩, ⟨S16384x1, b⟩] concatenates_S16384x1_S16384x1_S16384x2_d1

/-- The operations of the reference, in order. -/
abbrev ops : List (HloOp τ sig (Elt F)) :=
  [ unary main_arg0 main_v0 ((transpose S16x32x32x64 [0, 2, 3, 1] · transposes_S16x64x32x32_S16x32x32x64_0_2_3_1)),
    reshape main_v0 main_v1 (rfl : (.f32 : EltTy) = .f32) shapeCasts_S16x32x32x64_S16384x64,
    binary main_v1 main_v1 main_v2 (mulf),
    nullary main_cst (constant S_ .f32 0x00000000#32),
    binary main_v2 main_cst main_v3 ((fun x v => Host.reduceAdd x v reducesTo_S16384x64_S16384_d1 h_S_)),
    unary main_v3 main_v4 (broadcastInDim S16384x1 ![0] bcast_S16384_S16384x1_0),
    binary main_arg1 main_arg1 main_v5 (mulf),
    nullary main_cst_0 (constant S_ .f32 0x00000000#32),
    binary main_v5 main_cst_0 main_v6 ((fun x v => Host.reduceAdd x v reducesTo_S1024x64_S1024_d1 h_S_)),
    unary main_v6 main_v7 (broadcastInDim S1x1024 ![1] bcast_S1024_S1x1024_1),
    unary main_v4 main_v8 (broadcastInDim S16384x1024 ![0, 1] bcast_S16384x1_S16384x1024_0_1),
    unary main_v7 main_v9 (broadcastInDim S16384x1024 ![0, 1] bcast_S1x1024_S16384x1024_0_1),
    binary main_v8 main_v9 main_v10 (addf),
    unary main_arg1 main_v11 ((transpose S64x1024 [1, 0] · transposes_S1024x64_S64x1024_1_0)),
    binary main_v1 main_v11 main_v12 ((fun l r => Host.dotGeneral dot_S16384x64_S64x1024_S16384x1024_1_0_0_1_n_n none l r)),
    nullary main_cst_1 (constant S_ .f32 0x40000000#32),
    unary main_cst_1 main_v13 (broadcastInDim S16384x1024 ![] bcast_S_S16384x1024),
    binary main_v13 main_v12 main_v14 (mulf),
    binary main_v10 main_v14 main_v15 (subf),
    TRef.nullary (.of main_call0_v0 : TRef sig ⟨S16384x1024, .i32⟩) (iotaInDim S16384x1024 32 1),
    TRef.nullary (.of main_call0_cst : TRef sig ⟨S_, .f32⟩) (constant S_ .f32 0x7F800000#32),
    TRef.nullary (.of main_call0_c : TRef sig ⟨S_, .i32⟩) (constantI S_ 32 0#32),
    TRef.quaternary (.of main_v15 : TRef sig ⟨S16384x1024, .f32⟩) (.of main_call0_v0 : TRef sig ⟨S16384x1024, .i32⟩) (.of main_call0_cst : TRef sig ⟨S_, .f32⟩) (.of main_call0_c : TRef sig ⟨S_, .i32⟩) (.of main_call0_v1_0 : TRef sig ⟨S16384, .f32⟩) (fun x y u v j => (Host.argReduce reducer_argmin_f32_i32 x y u v reducesTo_S16384x1024_S16384_d1 h_S_ j).1),
    TRef.quaternary (.of main_v15 : TRef sig ⟨S16384x1024, .f32⟩) (.of main_call0_v0 : TRef sig ⟨S16384x1024, .i32⟩) (.of main_call0_cst : TRef sig ⟨S_, .f32⟩) (.of main_call0_c : TRef sig ⟨S_, .i32⟩) (.of main_v16 : TRef sig ⟨S16384, .i32⟩) (fun x y u v j => (Host.argReduce reducer_argmin_f32_i32 x y u v reducesTo_S16384x1024_S16384_d1 h_S_ j).2),
    unary main_v16 main_v17 (broadcastInDim S16384x1 ![0] bcast_S16384_S16384x1_0),
    nullary main_cst_2 (constant S_ .f32 0x00000000#32),
    unary main_cst_2 main_v18 (broadcastInDim S16384x1024 ![] bcast_S_S16384x1024),
    nullary main_v19 (iotaInDim S16384 32 0),
    reshape main_v17 main_v20 (rfl : (.i32 : EltTy) = .i32) shapeCasts_S16384x1_S16384,
    nullary main_c (constantI S_ 32 0#32),
    unary main_c main_v21 (broadcastInDim S16384 ![] bcast_S_S16384),
    binary main_v19 main_v21 main_v22 (cmpi .slt),
    nullary main_c_3 (constantI S_ 32 16384#32),
    unary main_c_3 main_v23 (broadcastInDim S16384 ![] bcast_S_S16384),
    binary main_v19 main_v23 main_v24 (addi),
    ternary main_v22 main_v24 main_v19 main_v25 (select),
    nullary main_c_4 (constantI S_ 32 0#32),
    unary main_c_4 main_v26 (broadcastInDim S16384 ![] bcast_S_S16384),
    binary main_v20 main_v26 main_v27 (cmpi .slt),
    nullary main_c_5 (constantI S_ 32 1024#32),
    unary main_c_5 main_v28 (broadcastInDim S16384 ![] bcast_S_S16384),
    binary main_v20 main_v28 main_v29 (addi),
    ternary main_v27 main_v29 main_v20 main_v30 (select),
    unary main_v25 main_v31 (broadcastInDim S16384x1 ![0] bcast_S16384_S16384x1_0),
    unary main_v30 main_v32 (broadcastInDim S16384x1 ![0] bcast_S16384_S16384x1_0),
    binary main_v31 main_v32 main_v33 (pairs),
    nullary main_cst_6 (constant S_ .f32 0x3F800000#32),
    unary main_cst_6 main_v34 (broadcastInDim S16384 ![] bcast_S_S16384),
    ternary main_v18 main_v33 main_v34 main_v35 ((fun x i u => Host.scatter scatter_S16384x1024_S16384x2_S16384_n_01_01_1 (fun _ b => b) x i u)),
    binary main_v35 main_arg1 main_v36 ((fun l r => Host.dotGeneral dot_S16384x1024_S1024x64_S16384x64_1_0_0_1_n_n none l r)),
    reshape main_v36 main_v37 (rfl : (.f32 : EltTy) = .f32) shapeCasts_S16384x64_S16x32x32x64,
    binary main_v37 main_v0 main_v38 (subf),
    binary main_v38 main_v38 main_v39 (mulf),
    nullary main_cst_7 (constant S_ .f32 0x00000000#32),
    binary main_v39 main_cst_7 main_v40 ((fun x v => Host.reduceAdd x v reducesTo_S16x32x32x64_S_d0_1_2_3 h_S_)),
    nullary main_cst_8 (constant S_ .f32 0x49800000#32),
    binary main_v40 main_cst_8 main_v41 (Host.divf),
    binary main_v37 main_v0 main_v42 (subf),
    binary main_v42 main_v42 main_v43 (mulf),
    nullary main_cst_9 (constant S_ .f32 0x00000000#32),
    binary main_v43 main_cst_9 main_v44 ((fun x v => Host.reduceAdd x v reducesTo_S16x32x32x64_S_d0_1_2_3 h_S_)),
    nullary main_cst_10 (constant S_ .f32 0x49800000#32),
    binary main_v44 main_cst_10 main_v45 (Host.divf),
    nullary main_cst_11 (constant S_ .f32 0x3E800000#32),
    binary main_v41 main_cst_11 main_v46 (mulf),
    binary main_v46 main_v45 main_v47 (addf),
    binary main_v37 main_v0 main_v48 (subf),
    binary main_v0 main_v48 main_v49 (addf),
    unary main_v49 main_v50 ((transpose S16x64x32x32 [0, 3, 1, 2] · transposes_S16x32x32x64_S16x64x32x32_0_3_1_2)),
    nullary main_cst_12 (constant S_ .f32 0x00000000#32),
    binary main_v35 main_cst_12 main_v51 ((fun x v => Host.reduceAdd x v reducesTo_S16384x1024_S1024_d0 h_S_)),
    nullary main_cst_13 (constant S_ .f32 0x46800000#32),
    unary main_cst_13 main_v52 (broadcastInDim S1024 ![] bcast_S_S1024),
    binary main_v51 main_v52 main_v53 (Host.divf),
    nullary main_cst_14 (constant S_ .f32 0x2EDBE6FF#32),
    unary main_cst_14 main_v54 (broadcastInDim S1024 ![] bcast_S_S1024),
    binary main_v53 main_v54 main_v55 (addf),
    unary main_v55 main_v56 (Host.log),
    binary main_v53 main_v56 main_v57 (mulf),
    nullary main_cst_15 (constant S_ .f32 0x00000000#32),
    binary main_v57 main_cst_15 main_v58 ((fun x v => Host.reduceAdd x v reducesTo_S1024_S_d0 h_S_)),
    unary main_v58 main_v59 (Host.negf),
    unary main_v59 main_v60 (Host.exp) ]

set_option maxHeartbeats 4000000 in
/-- The reference is that straight line. -/
theorem main_eq (c : Dev nD) : main (F := F) c = seq ops := rfl

/-- Nothing is scoped in the reference. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own core only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-! ## The stages as functions of the arguments -/

variable (X : FVec F S16x64x32x32 .f32) (E : FVec F S1024x64 .f32)

/-- The input with its channel axis last. -/
def xt : FVec F S16x32x32x64 .f32 := transpose S16x32x32x64 [0, 2, 3, 1] X transposes_S16x64x32x32_S16x32x32x64_0_2_3_1
/-- The same as a table of rows. -/
def xf : FVec F S16384x64 .f32 := shapeCast S16384x64 (xt X) shapeCasts_S16x32x32x64_S16384x64
/-- The distances. -/
def dist : FVec F S16384x1024 .f32 :=
  subf
    (addf
      (broadcastInDim S16384x1024 ![0, 1] bcast_S16384x1_S16384x1024_0_1 (broadcastInDim S16384x1 ![0] bcast_S16384_S16384x1_0
        (Host.reduceAdd (mulf (xf X) (xf X)) (constant S_ .f32 0x00000000#32) reducesTo_S16384x64_S16384_d1 h_S_)))
      (broadcastInDim S16384x1024 ![0, 1] bcast_S1x1024_S16384x1024_0_1 (broadcastInDim S1x1024 ![1] bcast_S1024_S1x1024_1
        (Host.reduceAdd (mulf E E) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none (xf X)
        (transpose S64x1024 [1, 0] E transposes_S1024x64_S64x1024_1_0)))

variable (D : FVec F S16384x1024 .f32)

/-- The index of each row's least distance. -/
def arg : IVec S16384 32 := fun j =>
  (Host.argReduce reducer_argmin_f32_i32 D (iotaInDim S16384x1024 32 1) (constant S_ .f32 0x7F800000#32)
    (constantI S_ 32 0#32) reducesTo_S16384x1024_S16384_d1 h_S_ j).2
/-- The same as a column. -/
def ind : IVec S16384x1 32 := broadcastInDim S16384x1 ![0] bcast_S16384_S16384x1_0 (arg D)

variable (I : IVec S16384x1 32)

/-- The cells to set: each row with its index, a negative one counted from the end. -/
def cells : IVec S16384x2 32 :=
  pairs
    (broadcastInDim S16384x1 ![0] bcast_S16384_S16384x1_0
      (select (cmpi .slt (iotaInDim S16384 32 0) (broadcastInDim S16384 ![] bcast_S_S16384 (constantI S_ 32 0#32)))
        (addi (iotaInDim S16384 32 0) (broadcastInDim S16384 ![] bcast_S_S16384 (constantI S_ 32 16384#32)))
        (iotaInDim S16384 32 0)))
    (broadcastInDim S16384x1 ![0] bcast_S16384_S16384x1_0
      (select (cmpi .slt (shapeCast S16384 I shapeCasts_S16384x1_S16384) (broadcastInDim S16384 ![] bcast_S_S16384 (constantI S_ 32 0#32)))
        (addi (shapeCast S16384 I shapeCasts_S16384x1_S16384) (broadcastInDim S16384 ![] bcast_S_S16384 (constantI S_ 32 1024#32)))
        (shapeCast S16384 I shapeCasts_S16384x1_S16384)))
/-- The encodings: zeros with those cells set to one. -/
def enc : FVec F S16384x1024 .f32 :=
  Host.scatter scatter_S16384x1024_S16384x2_S16384_n_01_01_1 (fun _ b => b)
    (broadcastInDim S16384x1024 ![] bcast_S_S16384x1024 (constant S_ .f32 0x00000000#32)) (cells I)
    (broadcastInDim S16384 ![] bcast_S_S16384 (constant S_ .f32 0x3F800000#32))

variable (N : FVec F S16384x1024 .f32)

/-- The quantized rows, in the input's shape with its channel axis last. -/
def quant : FVec F S16x32x32x64 .f32 :=
  shapeCast S16x32x32x64 (Host.dotGeneral dot_S16384x1024_S1024x64_S16384x64_1_0_0_1_n_n none N E) shapeCasts_S16384x64_S16x32x32x64

variable (T Q : FVec F S16x32x32x64 .f32)

/-- The mean of the squared differences. -/
def mse : FVec F S_ .f32 :=
  Host.divf (Host.reduceAdd (mulf (subf Q T) (subf Q T)) (constant S_ .f32 0x00000000#32) reducesTo_S16x32x32x64_S_d0_1_2_3 h_S_)
    (constant S_ .f32 0x49800000#32)
/-- The loss. -/
def loss : FVec F S_ .f32 := addf (mulf (mse T Q) (constant S_ .f32 0x3E800000#32)) (mse T Q)
/-- The first result. -/
def out : FVec F S16x64x32x32 .f32 :=
  transpose S16x64x32x32 [0, 3, 1, 2] (addf T (subf Q T)) transposes_S16x32x32x64_S16x64x32x32_0_3_1_2
/-- How often each codebook row is taken, as a share. -/
def share : FVec F S1024 .f32 :=
  Host.divf (Host.reduceAdd N (constant S_ .f32 0x00000000#32) reducesTo_S16384x1024_S1024_d0 h_S_)
    (broadcastInDim S1024 ![] bcast_S_S1024 (constant S_ .f32 0x46800000#32))
/-- The perplexity of shares. -/
def perp (p : FVec F S1024 .f32) : FVec F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-! ## What the operations leave -/

variable (V : Valuation τ sig (Elt F))

set_option maxHeartbeats 4000000 in
/-- The distances. -/
theorem after_v15 : after ops V (main_v15 : DevRef τ sig) = dist (V (main_arg0 : DevRef τ sig)) (V (main_arg1 : DevRef τ sig)) := by
  after_results_simp
  try rfl

set_option maxHeartbeats 4000000 in
/-- The indices. -/
theorem after_v17 : after ops V (main_v17 : DevRef τ sig) = ind (dist (V (main_arg0 : DevRef τ sig)) (V (main_arg1 : DevRef τ sig))) := by
  after_results_simp
  try rfl

set_option maxHeartbeats 4000000 in
/-- The encodings. -/
theorem after_v35 : after ops V (main_v35 : DevRef τ sig) = enc (ind (dist (V (main_arg0 : DevRef τ sig)) (V (main_arg1 : DevRef τ sig)))) := by
  after_results_simp
  try rfl

set_option maxHeartbeats 4000000 in
/-- The loss. -/
theorem after_v47 : after ops V (main_v47 : DevRef τ sig) = loss (xt (V (main_arg0 : DevRef τ sig))) (quant (V (main_arg1 : DevRef τ sig)) (enc (ind (dist (V (main_arg0 : DevRef τ sig)) (V (main_arg1 : DevRef τ sig)))))) := by
  after_results_simp
  try rfl

set_option maxHeartbeats 4000000 in
/-- The first result. -/
theorem after_v50 : after ops V (main_v50 : DevRef τ sig) = out (xt (V (main_arg0 : DevRef τ sig))) (quant (V (main_arg1 : DevRef τ sig)) (enc (ind (dist (V (main_arg0 : DevRef τ sig)) (V (main_arg1 : DevRef τ sig)))))) := by
  after_results_simp
  try rfl

set_option maxHeartbeats 4000000 in
/-- The perplexity. -/
theorem after_v60 : after ops V (main_v60 : DevRef τ sig) = perp (share (enc (ind (dist (V (main_arg0 : DevRef τ sig)) (V (main_arg1 : DevRef τ sig)))))) := by
  after_results_simp
  try rfl

set_option maxHeartbeats 4000000 in
/-- The first argument is kept. -/
theorem after_a0 : after ops V (main_arg0 : DevRef τ sig) = V (main_arg0 : DevRef τ sig) := by
  after_results_simp
  try rfl

set_option maxHeartbeats 4000000 in
/-- The second argument is kept. -/
theorem after_a1 : after ops V (main_arg1 : DevRef τ sig) = V (main_arg1 : DevRef τ sig) := by
  after_results_simp
  try rfl

/-- The reference's run: from any memory with its counters at zero it ends, every buffer at the operations' results. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Val

end
-- ==== Proof.Land.lean ====
/- Setting one cell in each row of a table, the cells given as pairs of words. -/
module

public import proofs.«01_k».proof.Proof.RefRun
public import Idealize.ShloMosaic.Lib.Pointwise
public import Idealize.ShloMosaic.Lib.WordArith
public import Idealize.ShloMosaic.Lib.Routing.OpsSet

@[expose] public section

namespace Cert.VQ

open Idealize.ShloMosaic

variable {A C : Nat} (d : ScatterDims ⟨2, ![A, C]⟩ ⟨2, ![A, 2]⟩ ⟨1, ![A]⟩)

/-- Update `a` lands at the cell its pair of words names, and nowhere else. -/
theorem lands (hiw : d.insertedWindowDims = [0, 1]) (hsd : d.scatterDimsToOperandDims = [0, 1]) (hiv : d.indexVectorDim = 1)
    (idx : IVec ⟨2, ![A, 2]⟩ 32) (a r : Fin A) (c : Fin C) :
    d.resultIdx? (ix1 a) idx = some (ix2 r c) ↔ (idx (ix2 a 0)).toInt = r.val ∧ (idx (ix2 a 1)).toInt = c.val := by
  have mem : ∀ q : Fin 2, q ∈ d.scatterDimsToOperandDims := fun q => by
    rw [hsd]
    match q with
    | ⟨0, _⟩ => exact List.mem_cons_self
    | ⟨1, _⟩ => exact List.mem_cons_of_mem _ List.mem_cons_self
  have win : ∀ q : Fin 2, d.window (ix1 a) q = 0 := fun q => by
    unfold ScatterDims.window
    have hq : q ∈ d.insertedWindowDims := by
      rw [hiw, ← hsd]
      exact mem q
    exact dif_neg fun h => (of_decide_eq_true (List.mem_filter.1 h).2) hq
  have one : ∀ X : Fin 1, (ix1 a X).val = a.val := fun X => by
    obtain rfl : X = 0 := Subsingleton.elim _ _
    rfl
  have word : ∀ q : Fin 2, d.start (ix1 a) idx q = (idx (ix2 a q)).toInt := fun q => by
    unfold ScatterDims.start
    rw [dif_pos (mem q)]
    refine congrArg (fun i => (idx i).toInt) (funext fun b => Fin.ext ?_)
    unfold ScatterDims.siIdx
    match b with
    | ⟨0, _⟩ =>
      rw [dif_neg (by rw [hiv]; exact Nat.zero_ne_one)]
      exact one _
    | ⟨1, _⟩ =>
      rw [dif_pos (by rw [hiv])]
      show d.scatterDimsToOperandDims.idxOf q = q.val
      rw [hsd]
      match q with
      | ⟨0, _⟩ => rfl
      | ⟨1, _⟩ => rfl
  rw [ix2_eq_valueIdx, Routing.resultIdx?_ix2]
  have w0 := word 0
  have w1 := word 1
  have v0 := win 0
  have v1 := win 1
  rw [w0, w1, v0, v1]
  simp

/-- Where the pairs are the rows' own numbers, each with a column, setting them leaves the new value in that column of each row and
    the old one elsewhere. -/
theorem set_at {α : Type} (hiw : d.insertedWindowDims = [0, 1]) (hsd : d.scatterDimsToOperandDims = [0, 1]) (hiv : d.indexVectorDim = 1)
    (idx : IVec ⟨2, ![A, 2]⟩ 32) (p : Fin A → Fin C) (h0 : ∀ a, (idx (ix2 a 0)).toInt = a.val) (h1 : ∀ a, (idx (ix2 a 1)).toInt = (p a).val)
    (x : (⟨2, ![A, C]⟩ : Shape).Idx → α) (u : (⟨1, ![A]⟩ : Shape).Idx → α) (r : Fin A) (c : Fin C) :
    Host.scatter d (fun _ b => b) x idx u (ix2 r c) = if c = p r then u (ix1 r) else x (ix2 r c) := by
  have key : ∀ k, d.resultIdx? k idx = some (ix2 r c) → k = ix1 r ∧ c = p r := fun k hk => by
    obtain ⟨a, rfl⟩ : ∃ a : Fin A, k = ix1 a := ⟨k 0, by
      funext b
      match b with
      | ⟨0, _⟩ => rfl⟩
    obtain ⟨e0, e1⟩ := (lands d hiw hsd hiv idx a r c).1 hk
    rw [h0] at e0
    rw [h1] at e1
    obtain rfl : a = r := Fin.ext (Int.ofNat.inj e0)
    exact ⟨rfl, (Fin.ext (Int.ofNat.inj e1)).symm⟩
  by_cases h : c = p r
  · rw [if_pos h]
    exact Routing.scatter_set_hit d x idx u _ _ (fun k hk => congrArg u (key k hk).1) (ix1 r)
      ((lands d hiw hsd hiv idx r r c).2 ⟨h0 r, by rw [h1, h]⟩)
  · rw [if_neg h]
    exact Routing.scatter_set_miss d x idx u _ fun k hk => h (key k hk).2

end Cert.VQ
-- ==== Proof.RefVal.lean ====
/- What the reference's stages hold, entry by entry on extended reals. -/
module

public import proofs.«01_k».proof.Proof.Land
public import Idealize.ShloMosaic.Lib.Pointwise
public import Idealize.ShloMosaic.Lib.Routing.OpsSet

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.VQ (dst best hot qz sq pick lex ent)
open Cert.KernelIdeal.Val (rows book)

variable (X : FVec Ideal S16x64x32x32 .f32) (e : FVec Ideal S1024x64 .f32)

/-! ## Distances and the nearest row -/

/-- The distances. -/
theorem dist_at (n : Fin 16384) (k : Fin 1024) : dist (F := Ideal) X e (ix2 n k) = dst (rows (xf X) n) (book e) k := by
  pointwise [dist]
  rfl

/-- The reduction's body is the choice of the smaller distance, of equal ones the one with the smaller position. -/
theorem reducer_eq (a b : EReal × BitVec 32) : reducer_argmin_f32_i32 (F := Ideal) a b = lex a b := by
  obtain ⟨a1, a2⟩ := a
  obtain ⟨b1, b2⟩ := b
  unfold reducer_argmin_f32_i32 lex
  have hlt : FloatOps.cmpf (F := Ideal) (φ := .f32) .olt a1 b1 = BitVec.ofBool (decide (a1 < b1)) := rfl
  have heq : FloatOps.cmpf (F := Ideal) (φ := .f32) .oeq a1 b1 = BitVec.ofBool (decide (a1 = b1)) := rfl
  have hne : FloatOps.cmpf (F := Ideal) (φ := .f32) .une a1 a1 = 0#1 := by simp [Ideal.cmpf_def, Ideal.cmp]
  have hs : IntOp.cmpi .slt a2 b2 = BitVec.ofBool (a2.slt b2) := rfl
  simp only [hlt, heq, hne, hs]
  by_cases h1 : a1 < b1
  · simp [h1, h1.ne, IntOp.ori, IntOp.andi, Scalar.select]
  · by_cases h2 : a1 = b1
    · by_cases h3 : a2.slt b2 = true
      · simp [h2, h3, IntOp.ori, IntOp.andi, Scalar.select]
      · simp [h2, h3, IntOp.ori, IntOp.andi, Scalar.select]
    · simp [h1, h2, IntOp.ori, IntOp.andi, Scalar.select]

variable (D : FVec Ideal S16384x1024 .f32)

/-- The least of each row with its position, of any number of rows. -/
theorem argmin_at {A : Nat} (D : FVec Ideal ⟨2, ![A, 1024]⟩ .f32) (y : IVec ⟨2, ![A, 1024]⟩ 32) (hy : ∀ n k, y (ix2 n k) = BitVec.ofNat 32 k.val)
    (ix : FVec Ideal S_ .f32) (iy : IVec S_ 32) (hx : ix (Shape.Idx.first h_S_) = (⊤ : EReal)) (hiy : iy (Shape.Idx.first h_S_) = 0#32)
    (h : (⟨2, ![A, 1024]⟩ : Shape).ReducesTo [1] ⟨1, ![A]⟩) (n : Fin A) :
    (Host.argReduce (φ := .f32) lex D y ix iy h h_S_ (ix1 n)).2 = BitVec.ofNat 32 (best fun k => D (ix2 n k)).val := by
  rw [Ideal.argReduce_eq_reduce2, Host.reduce2_eq_foldl_fiber, hx, hiy,
    Cert.VQ.foldl_best (fun k => D (ix2 n k)) (Host.argReduceFiber D y h (ix1 n)) ?_ ?_]
  · intro p hp
    obtain ⟨i, hi, rfl⟩ := List.mem_map.1 hp
    obtain ⟨k, hk⟩ := (Shape.ReducesTo.fiber_r2_a1 h (ix1 n) _).1 (of_decide_eq_true (List.mem_filter.1 hi).2)
    refine ⟨k, ?_⟩
    rw [← hk]
    exact Prod.ext rfl (hy _ k)
  · intro k
    refine List.mem_map.2 ⟨(⟨2, ![A, 1024]⟩ : Shape).rowMajor (ix2 n k), List.mem_filter.2 ⟨List.mem_finRange _, ?_⟩, ?_⟩
    · rw [Equiv.symm_apply_apply]
      exact decide_eq_true ((Shape.ReducesTo.fiber_r2_a1 h (ix1 n) _).2 ⟨k, rfl⟩)
    · rw [Equiv.symm_apply_apply]
      exact Prod.ext rfl (hy n k)

/-- The choice of the nearest row, written out. -/
theorem arg_eq : arg (F := Ideal) D = fun j => (Host.argReduce (F := Ideal) (φ := .f32) reducer_argmin_f32_i32 D (iotaInDim S16384x1024 32 1)
    (constant S_ .f32 0x7F800000#32) (constantI S_ 32 0#32) reducesTo_S16384x1024_S16384_d1 h_S_ j).2 := by
  delta arg
  rfl

/-- The index of a row's least distance, as a word. -/
theorem arg_at (n : Fin 16384) : arg (F := Ideal) D (ix1 n) = BitVec.ofNat 32 (best fun k => D (ix2 n k)).val := by
  rw [arg_eq, show reducer_argmin_f32_i32 (F := Ideal) = lex from funext fun a => funext fun b => reducer_eq a b]
  exact argmin_at D (iotaInDim S16384x1024 32 1) (fun _ _ => rfl) (constant S_ .f32 0x7F800000#32) (constantI S_ 32 0#32)
    Cert.VQ.inf_eq rfl reducesTo_S16384x1024_S16384_d1 n

/-- A vector as a column. -/
theorem col_at (v : IVec S16384 32) (n : Fin 16384) :
    broadcastInDim S16384x1 ![0] bcast_S16384_S16384x1_0 v (ix2 n 0) = v (ix1 n) := by
  pointwise

/-- The column of nearest rows. -/
theorem ind_eq : ind (F := Ideal) D = broadcastInDim S16384x1 ![0] bcast_S16384_S16384x1_0 (arg (F := Ideal) D) := by
  delta ind
  rfl

/-- The same at an entry. -/
theorem ind_at (n : Fin 16384) : ind (F := Ideal) D (ix2 n 0) = BitVec.ofNat 32 (best fun k => D (ix2 n k)).val := by
  rw [ind_eq, col_at, arg_at]

/-! ## The encodings -/

/-- A column as a vector. -/
theorem flat_at (I : IVec S16384x1 32) (n : Fin 16384) : shapeCast S16384 I shapeCasts_S16384x1_S16384 (ix1 n) = I (ix2 n 0) := by
  pointwise

/-- A number that is not negative is not counted from the end. -/
theorem wrap_at (v : IVec S16384 32) (c : BitVec 32) (n : Fin 16384) (h : (v (ix1 n)).toNat < 2 ^ 31) :
    select (cmpi .slt v (broadcastInDim S16384 ![] bcast_S_S16384 (constantI S_ 32 0#32)))
      (addi v (broadcastInDim S16384 ![] bcast_S_S16384 (constantI S_ 32 c))) v (ix1 n) = v (ix1 n) :=
  Routing.wrap_of_lt _ _ h

/-- The first of a pair. -/
theorem pairs_fst (a b : IVec S16384x1 32) (n : Fin 16384) : pairs a b (ix2 n 0) = a (ix2 n 0) := by
  unfold pairs
  refine concatenate_pair_apply_left (t := S16384x2) 1 a b _ (ix2 n 0) rfl (ix2 n 0) fun q => ?_
  match q with
  | ⟨0, _⟩ => rfl
  | ⟨1, _⟩ => rfl

/-- The second of a pair. -/
theorem pairs_snd (a b : IVec S16384x1 32) (n : Fin 16384) : pairs a b (ix2 n 1) = b (ix2 n 0) := by
  unfold pairs
  refine concatenate_pair_apply_right (t := S16384x2) 1 a b _ (ix2 n 1) rfl rfl (ix2 n 0) (fun q hq => ?_) rfl
  match q, hq with
  | ⟨0, _⟩, _ => rfl
  | ⟨1, _⟩, hq => exact (hq rfl).elim

variable (I : IVec S16384x1 32) (p : Fin 16384 → Fin 1024) (hI : ∀ n, I (ix2 n 0) = BitVec.ofNat 32 (p n).val)

include hI in
/-- Each cell's column is the row's index. -/
theorem cells_snd (n : Fin 16384) : (cells I (ix2 n 1)).toInt = (p n).val := by
  have hv : shapeCast S16384 I shapeCasts_S16384x1_S16384 (ix1 n) = BitVec.ofNat 32 (p n).val := (flat_at I n).trans (hI n)
  have hp := (p n).isLt
  unfold cells
  rw [pairs_snd, col_at, wrap_at _ _ _ (by rw [hv, BitVec.toNat_ofNat]; omega), hv]
  exact Cert.VQ.toInt_small _ (by omega)

/-- Each cell's row is the row's own number. -/
theorem cells_fst (n : Fin 16384) : (cells I (ix2 n 0)).toInt = n.val := by
  have hv : iotaInDim S16384 32 0 (ix1 n) = BitVec.ofNat 32 n.val := rfl
  have hn := n.isLt
  unfold cells
  rw [pairs_fst, col_at, wrap_at _ _ _ (by rw [hv, BitVec.toNat_ofNat]; omega), hv]
  exact WordArith.toInt_ofNat_small _ (by omega)

include hI in
/-- The encodings: one at each row's index, zero elsewhere. -/
theorem enc_at (n : Fin 16384) (k : Fin 1024) : enc (F := Ideal) I (ix2 n k) = if k = p n then (1 : EReal) else 0 := by
  unfold enc
  rw [Cert.VQ.set_at _ rfl rfl rfl (cells I) p (cells_fst I) (cells_snd I p hI)]
  refine if_congr Iff.rfl ?_ ?_
  · exact Ideal.ofBits_one_f32
  · exact Ideal.ofBits_zero_f32

/-! ## The stages on the input's rows -/

open Cert.KernelIdeal.Val (DST HOT POS QZ)

/-- The distances, whole. -/
theorem dist_eq : dist (F := Ideal) X e = DST (xf X) e := by
  funext i
  idx_vars i
  exact dist_at X e _ _

/-- The distances' nearest rows. -/
theorem near_at (n : Fin 16384) : ind (F := Ideal) (DST (xf X) e) (ix2 n 0) = BitVec.ofNat 32 (pick (rows (xf X) n) (book e)).val :=
  ind_at _ n

/-- The encodings, whole. -/
theorem enc_eq : enc (F := Ideal) (ind (F := Ideal) (DST (xf X) e)) = HOT (xf X) e := by
  funext i
  idx_vars i
  exact enc_at _ (fun n => pick (rows (xf X) n) (book e)) (near_at X e) _ _

/-- The quantized rows. -/
theorem quant_at (N : FVec Ideal S16384x1024 .f32) (b : Fin 16) (h w : Fin 32) (j : Fin 64) :
    quant (F := Ideal) e N (ix4 b h w j) = ∑ k, N (ix2 ⟨b.val * 1024 + h.val * 32 + w.val, by omega⟩ k) * e (ix2 k j) := by
  pointwise [quant]

/-- The input with its channel axis last, by its rows. -/
theorem xt_eq : xt (F := Ideal) X = shapeCast S16x32x32x64 (xf X) shapeCasts_S16384x64_S16x32x32x64 := by
  unfold xf
  exact (shapeCast_shapeCast _ _ _).symm

/-- The sum over all axes of a table laid out anew is the sum over its rows. -/
theorem total_at (G : FVec Ideal S16384x64 .f32) :
    Ideal.hostReduceAdd reducesTo_S16x32x32x64_S_d0_1_2_3 (shapeCast S16x32x32x64 G shapeCasts_S16384x64_S16x32x32x64) 0 ix0
      = ∑ n, ∑ j, G (ix2 n j) := by
  unfold Ideal.hostReduceAdd
  rw [zero_add, Finset.filter_true_of_mem fun i _ => funext fun q => q.elim0]
  exact ((Shape.reshapeEquiv shapeCasts_S16384x64_S16x32x32x64).sum_comp G).trans (sum_idx2 G)

/-- The loss, of any quantized rows. -/
theorem loss_at (q : FVec Ideal S16384x64 .f32) :
    loss (F := Ideal) (shapeCast S16x32x32x64 (xf X) shapeCasts_S16384x64_S16x32x32x64) (shapeCast S16x32x32x64 q shapeCasts_S16384x64_S16x32x32x64) ix0
      = Cert.VQ.loss (∑ n, ∑ j, (q (ix2 n j) - xf X (ix2 n j)) * (q (ix2 n j) - xf X (ix2 n j))) := by
  refine Eq.trans ?_ (congrArg Cert.VQ.loss (total_at (mulf (subf q (xf X)) (subf q (xf X)))))
  pointwise [loss, mse]
  rfl

/-- The perplexity. -/
theorem perp_at (N : FVec Ideal S16384x1024 .f32) :
    perp (F := Ideal) (share N) ix0 = Scalar.exp (F := Ideal) (φ := .f32) (0 - Cert.VQ.ent fun k => ∑ n, N (ix2 n k)) := by
  pointwise [perp, share]
  rw [zero_sub]
  rfl

end Cert.ReferenceIdeal.Val

end
-- ==== Proof.Match.lean ====
/- The reference's results are the kernel's arrays, laid out as the kernel lays them out. -/
module

public import proofs.«01_k».proof.Proof.RefVal

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.VQ (dst best hot qz sq pick lex ent rowOf)
open Cert.KernelIdeal.Val (rows book DST HOT POS QZ POS_at)

variable (X : FVec Ideal S16x64x32x32 .f32) (e : FVec Ideal S1024x64 .f32)

/-- The quantized rows as a table. -/
def tabQ (N : FVec Ideal S16384x1024 .f32) : FVec Ideal S16384x64 .f32 :=
  Host.dotGeneral (F := Ideal) dot_S16384x1024_S1024x64_S16384x64_1_0_0_1_n_n none N e

/-- The quantized rows, entry by entry. -/
theorem tabQ_at (n : Fin 16384) (j : Fin 64) : tabQ e (HOT (xf X) e) (ix2 n j) = qz (rows (xf X) n) (book e) j := by
  pointwise [tabQ]
  rfl

/-- They are laid out as the input is. -/
theorem quant_eq (N : FVec Ideal S16384x1024 .f32) :
    quant (F := Ideal) e N = shapeCast S16x32x32x64 (tabQ e N) shapeCasts_S16384x64_S16x32x32x64 := by
  delta quant tabQ
  rfl

/-- The input's rows plus the difference to the quantized ones. -/
theorem QZ_eq : addf (xf X) (subf (tabQ e (HOT (xf X) e)) (xf X)) = QZ (xf X) e := by
  funext i
  idx_vars i
  show xf X _ + (tabQ e (HOT (xf X) e) _ - xf X _) = _
  rw [tabQ_at]
  rfl

/-- The first result. -/
theorem out_eq : out (F := Ideal) (xt X) (quant e (HOT (xf X) e))
    = transpose S16x64x32x32 [0, 3, 1, 2] (shapeCast S16x32x32x64 (QZ (xf X) e) shapeCasts_S16384x64_S16x32x32x64)
        transposes_S16x32x32x64_S16x64x32x32_0_3_1_2 := by
  rw [quant_eq, xt_eq, ← QZ_eq]
  delta out
  rfl

/-- A scalar array is its one entry. -/
theorem scalar_ext {f g : FVec Ideal S_ .f32} (h : f ix0 = g ix0) : f = g := by
  funext i
  obtain rfl : i = ix0 := funext fun q => q.elim0
  exact h

/-- The second result: the loss of the sum of all rows' squared differences. -/
theorem loss_eq : loss (F := Ideal) (xt X) (quant e (HOT (xf X) e))
    = fun _ => Cert.VQ.loss (∑ n, sq (rows (xf X) n) (book e)) := by
  refine scalar_ext ?_
  rw [quant_eq, xt_eq, loss_at]
  simp only [tabQ_at]
  rfl

/-- The third result: the perplexity of how often each codebook row is taken. -/
theorem perp_eq : perp (F := Ideal) (share (HOT (xf X) e))
    = fun _ => Scalar.exp (F := Ideal) (φ := .f32) (0 - ent fun k => ∑ n, hot (rows (xf X) n) (book e) k) := by
  refine scalar_ext ?_
  rw [perp_at]
  rfl

/-- A table of blocks of 2048 as one column. -/
theorem column_at (P : IVec ⟨3, ![8, 1, 2048]⟩ 32) (h : (⟨3, ![8, 1, 2048]⟩ : Shape).ShapeCasts S16384x1) (n : Fin 16384) :
    shapeCast S16384x1 P h (ix2 n 0) = P (ix3 ⟨n.val / 2048, by omega⟩ 0 ⟨n.val % 2048, by omega⟩) := by
  pointwise

/-- The fifth result: each row's position. -/
theorem ind_col (h : (⟨3, ![8, 1, 2048]⟩ : Shape).ShapeCasts S16384x1) :
    ind (F := Ideal) (DST (xf X) e) = shapeCast S16384x1 (POS (xf X) e) h := by
  funext i
  idx_vars i
  obtain rfl : i1 = 0 := Subsingleton.elim (α := Fin 1) _ _
  have hr : rowOf (⟨i0.val / 2048, by omega⟩ : Fin 8) (⟨i0.val % 2048, by omega⟩ : Fin 2048) = i0 := Fin.ext (Nat.div_add_mod _ _)
  rw [near_at, column_at, POS_at, hr]

end Cert.ReferenceIdeal.Val

end
-- ==== Proof.Runs.lean ====
/- What the kernel's and the reference's runs end with, on extended reals. -/
module

public import proofs.«01_k».proof.Proof.Match
public import Idealize.ShloMosaic.Lib.Claim

@[expose] public section

set_option maxRecDepth 16384

noncomputable section

namespace Cert.KernelIdeal.Val

open Cert.KernelIdeal Cert.KernelIdeal.Gen Idealize.ShloMosaic Idealize.ShloMosaic.TcCoe Idealize.SL.Sem
open Cert.VQ (hot sq ent)

variable (m : (ℓ : Loc nD τ sig) → Buf (Elt Ideal) ℓ) (ρ : Dev nD → PrngReg)

/-- The kernel's rows are the input's, with its channel axis last. -/
theorem tab_eq (c : Dev nD) : tab m c = Cert.ReferenceIdeal.Val.xf (F := Ideal) (m ((c.tc : Thread nD τ).loc main_arg0)) := by
  unfold tab
  entry_read
  rfl

set_option maxHeartbeats 4000000 in
/-- The kernel's run: every result holds its array, and the arguments are kept. -/
theorem kernel_run : θ_run (defs (F := Ideal)) (onTc (τ := τ) (main (F := Ideal))) ⟨m, fun _ => 0, ρ⟩ fun r => ∀ c : Dev nD,
    r.2.mem ((c.tc : Thread nD τ).loc main_v0_0) = (transpose S16x64x32x32 [0, 3, 1, 2]
        (shapeCast S16x32x32x64 (QZ (tab m c) (bk m c)) shapeCasts_S16384x64_S16x32x32x64) transposes_S16x32x32x64_S16x64x32x32_0_3_1_2)
    ∧ r.2.mem ((c.tc : Thread nD τ).loc main_v0_1) = (fun _ => Cert.VQ.loss (∑ n, sq (rows (tab m c) n) (book (bk m c))) : FVec Ideal S_ .f32)
    ∧ r.2.mem ((c.tc : Thread nD τ).loc main_v0_2)
        = (fun _ => Scalar.exp (F := Ideal) (φ := .f32) (0 - ent fun k => ∑ n, hot (rows (tab m c) n) (book (bk m c)) k) : FVec Ideal S_ .f32)
    ∧ r.2.mem ((c.tc : Thread nD τ).loc main_v0_3) = HOT (tab m c) (bk m c)
    ∧ r.2.mem ((c.tc : Thread nD τ).loc main_v0_4) = shapeCast S16384x1 (POS (tab m c) (bk m c)) shapeCasts_S8x1x2048_S16384x1
    ∧ r.2.mem ((c.tc : Thread nD τ).loc main_v0_5) = DST (tab m c) (bk m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from run_main m ρ
  · show StableHlo.after hostOps1 _ _ = _
    after_results
    erw [Pipeline.withArrays_arr _ launch0.win.arr_inj c _ _ 5]
    erw [final_qz m c]
    rfl
  · show StableHlo.after hostOps1 _ _ = _
    after_results
    erw [Pipeline.withArrays_arr _ launch0.win.arr_inj c _ _ 6]
    erw [final_loss m c]
    rfl
  · show StableHlo.after hostOps1 _ _ = _
    after_results
    erw [Pipeline.withArrays_arr _ launch0.win.arr_inj c _ _ 7]
    erw [final_perp m c]
    rfl
  · exact final_enc m c
  · show StableHlo.after hostOps1 _ _ = _
    after_results
    erw [Pipeline.withArrays_arr _ launch0.win.arr_inj c _ _ 4]
    erw [final_idx m c]
    rfl
  · exact final_dist m c
  · show StableHlo.after hostOps1 _ _ = _
    after_results
    erw [Pipeline.withArrays_of_ne _ c _ _ main_arg0 (by decide)]
    exact V_main_arg0 m c

end Cert.KernelIdeal.Val

namespace Cert.ReferenceIdeal.Val

open Cert.ReferenceIdeal Cert.ReferenceIdeal.Gen Idealize.ShloMosaic Idealize.ShloMosaic.TcCoe Idealize.SL.Sem
open Cert.VQ (hot sq ent)
open Cert.KernelIdeal.Val (rows book DST HOT POS QZ)

variable (m : (ℓ : Loc nD τ sig) → Buf (Elt Ideal) ℓ) (ρ : Dev nD → PrngReg)

/-- The first argument on a device. -/
abbrev inp (c : Dev nD) : FVec Ideal S16x64x32x32 .f32 := m ((c.tc : Thread nD τ).loc main_arg0)
/-- The codebook on a device. -/
abbrev cb (c : Dev nD) : FVec Ideal S1024x64 .f32 := m ((c.tc : Thread nD τ).loc main_arg1)

/-- The reference's run: every result holds the same arrays of its own arguments, and the arguments are kept. -/
theorem reference_run (h : (⟨3, ![8, 1, 2048]⟩ : Shape).ShapeCasts S16384x1) :
    θ_run (defs (F := Ideal)) (onTc (τ := τ) (main (F := Ideal))) ⟨m, fun _ => 0, ρ⟩ fun r => ∀ c : Dev nD,
    r.2.mem ((c.tc : Thread nD τ).loc main_v50) = (transpose S16x64x32x32 [0, 3, 1, 2]
        (shapeCast S16x32x32x64 (QZ (xf (inp m c)) (cb m c)) shapeCasts_S16384x64_S16x32x32x64) transposes_S16x32x32x64_S16x64x32x32_0_3_1_2)
    ∧ r.2.mem ((c.tc : Thread nD τ).loc main_v47)
        = (fun _ => Cert.VQ.loss (∑ n, sq (rows (xf (inp m c)) n) (book (cb m c))) : FVec Ideal S_ .f32)
    ∧ r.2.mem ((c.tc : Thread nD τ).loc main_v60)
        = (fun _ => Scalar.exp (F := Ideal) (φ := .f32) (0 - ent fun k => ∑ n, hot (rows (xf (inp m c)) n) (book (cb m c)) k) : FVec Ideal S_ .f32)
    ∧ r.2.mem ((c.tc : Thread nD τ).loc main_v35) = HOT (xf (inp m c)) (cb m c)
    ∧ r.2.mem ((c.tc : Thread nD τ).loc main_v17) = shapeCast S16384x1 (POS (xf (inp m c)) (cb m c)) h
    ∧ r.2.mem ((c.tc : Thread nD τ).loc main_v15) = DST (xf (inp m c)) (cb m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (run m ρ) fun r hr c => ?_
  have a0 : StableHlo.launchContents m c (main_arg0 : DevRef τ sig) = inp m c := rfl
  have a1 : StableHlo.launchContents m c (main_arg1 : DevRef τ sig) = cb m c := rfl
  refine ⟨(hr c main_v50).trans ?_, (hr c main_v47).trans ?_, (hr c main_v60).trans ?_, (hr c main_v35).trans ?_,
    (hr c main_v17).trans ?_, (hr c main_v15).trans ?_, (hr c main_arg0).trans (after_a0 _), (hr c main_arg1).trans (after_a1 _)⟩
  · rw [after_v50, a0, a1, dist_eq, enc_eq, out_eq]
  · rw [after_v47, a0, a1, dist_eq, enc_eq, loss_eq]
  · rw [after_v60, a0, a1, dist_eq, enc_eq, perp_eq]
  · rw [after_v35, a0, a1, dist_eq, enc_eq]
  · rw [after_v17, a0, a1, dist_eq, ind_col]
  · rw [after_v15, a0, a1, dist_eq]

/-- The reference's run keeps its arguments and ends with every counter at zero. -/
theorem reference_frame : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine θ_run_mono (run m ρ) fun r hr => ⟨fun c => ⟨(hr c main_arg0).trans (after_a0 _), (hr c main_arg1).trans (after_a1 _)⟩, ?_⟩
  exact sem_eq_zero_of_no_sems (by decide) r.2

end Cert.ReferenceIdeal.Val

end
-- ==== Proof.lean ====
/- The proof of the claims: the kernel's and the reference's runs end, keep their arguments and leave every counter at
   zero, and on extended reals all six results of the kernel are the reference's. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Runs
public import Idealize.ShloMosaic.Adequacy
public import Idealize.ShloMosaic.Init

@[expose] public section

noncomputable section

namespace Cert.Proof

open Idealize.ShloMosaic Idealize.ShloMosaic.TcCoe Idealize.SL.Sem
open Cert.KernelIdeal.Val (tab bk tab_eq kernel_run)
open Cert.ReferenceIdeal.Val (inp cb xf reference_run reference_frame)

/-- From arguments that agree, the kernel and the reference both run and end with the same six results. -/
theorem algebraic : Cert.algebraic_KernelIdeal_ReferenceIdeal := by
  intro m g m' g' _ hagree
  have hx : ∀ c, xf (F := Ideal) (inp m' c) = tab m c := fun c => ((congrArg (xf (F := Ideal)) (hagree c).1).trans (tab_eq m c).symm)
  have he : ∀ c, cb m' c = bk m c := fun c => (hagree c).2
  refine ⟨_, _, _, _, _, _, kernel_run m g, ?_⟩
  refine θ_run_mono (reference_run m' g' Cert.KernelIdeal.Gen.shapeCasts_S8x1x2048_S16384x1) fun r hr c => ?_
  have h := hr c
  rw [hx c, he c] at h
  exact h

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => reference_frame m ρ, trivial, algebraic⟩

end Cert.Proof

end
